-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x256 : Shape := ⟨3, ![16, 512, 256]⟩
abbrev S16x512x2048 : Shape := ⟨3, ![16, 512, 2048]⟩
abbrev S12x256x2048 : Shape := ⟨3, ![12, 256, 2048]⟩
abbrev S12x256 : Shape := ⟨2, ![12, 256]⟩
abbrev S12x16x10x500 : Shape := ⟨4, ![12, 16, 10, 500]⟩
abbrev S500 : Shape := ⟨1, ![500]⟩
abbrev S1x16x10x500 : Shape := ⟨4, ![1, 16, 10, 500]⟩
abbrev S16x10x500 : Shape := ⟨3, ![16, 10, 500]⟩
abbrev S1x1x500 : Shape := ⟨3, ![1, 1, 500]⟩
abbrev S_ : Shape := ⟨0, ![]⟩
abbrev S16x12x10x500 : Shape := ⟨4, ![16, 12, 10, 500]⟩
abbrev S3072x2048 : Shape := ⟨2, ![3072, 2048]⟩
abbrev S1x3072 : Shape := ⟨2, ![1, 3072]⟩
abbrev S16x1x12 : Shape := ⟨3, ![16, 1, 12]⟩
abbrev S1x512x256 : Shape := ⟨3, ![1, 512, 256]⟩
abbrev S1x512x2048 : Shape := ⟨3, ![1, 512, 2048]⟩
abbrev S1x12x10x500 : Shape := ⟨4, ![1, 12, 10, 500]⟩
abbrev S1x1x12 : Shape := ⟨3, ![1, 1, 12]⟩
abbrev S512x256 : Shape := ⟨2, ![512, 256]⟩
abbrev S512x2048 : Shape := ⟨2, ![512, 2048]⟩
abbrev S512x3072 : Shape := ⟨2, ![512, 3072]⟩
abbrev S512x500 : Shape := ⟨2, ![512, 500]⟩
abbrev S500x256 : Shape := ⟨2, ![500, 256]⟩
abbrev S1x500 : Shape := ⟨2, ![1, 500]⟩
abbrev S1x1x1x500 : Shape := ⟨4, ![1, 1, 1, 500]⟩
abbrev S11x500 : Shape := ⟨2, ![11, 500]⟩
abbrev S1 : Shape := ⟨1, ![1]⟩
abbrev S1x1 : Shape := ⟨2, ![1, 1]⟩
abbrev S10x500 : Shape := ⟨2, ![10, 500]⟩
abbrev S1x12 : Shape := ⟨2, ![1, 12]⟩
abbrev S12 : Shape := ⟨1, ![12]⟩

abbrev nBuf : Space → Nat
  | .hbm => 398
  | .vmem => 12
  | .smem => 0
  | _ => 0

abbrev hbmTy0_0 (i : Nat) : BufTy := match i % 128 with
  | 0 => ⟨S16x512x256, .f32⟩
  | 1 => ⟨S16x512x2048, .f32⟩
  | 2 => ⟨S12x256x2048, .f32⟩
  | 3 => ⟨S12x256, .f32⟩
  | 4 => ⟨S12x16x10x500, .i32⟩
  | 5 => ⟨S500, .i32⟩
  | 6 => ⟨S1x16x10x500, .i32⟩
  | 7 => ⟨S16x10x500, .i32⟩
  | 8 => ⟨S1x1x500, .i32⟩
  | 9 => ⟨S16x10x500, .i32⟩
  | 10 => ⟨S16x10x500, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S16x10x500, .i32⟩
  | 18 => ⟨S16x10x500, .i32⟩
  | 19 => ⟨S_, .i32⟩
  | 20 => ⟨S16x10x500, .i32⟩
  | 21 => ⟨S16x10x500, .i1⟩
  | 22 => ⟨S_, .i32⟩
  | 23 => ⟨S16x10x500, .i32⟩
  | 24 => ⟨S16x10x500, .i1⟩
  | 25 => ⟨S_, .i32⟩
  | 26 => ⟨S_, .i1⟩
  | 27 => ⟨S16x10x500, .i1⟩
  | 28 => ⟨S16x10x500, .i1⟩
  | 29 => ⟨S16x10x500, .i1⟩
  | 30 => ⟨S16x10x500, .i32⟩
  | 31 => ⟨S16x10x500, .i32⟩
  | 32 => ⟨S16x10x500, .i32⟩
  | 33 => ⟨S_, .i32⟩
  | 34 => ⟨S16x10x500, .i32⟩
  | 35 => ⟨S16x10x500, .i32⟩
  | 36 => ⟨S1x16x10x500, .i32⟩
  | 37 => ⟨S16x10x500, .i32⟩
  | 38 => ⟨S1x1x500, .i32⟩
  | 39 => ⟨S16x10x500, .i32⟩
  | 40 => ⟨S16x10x500, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S16x10x500, .i32⟩
  | 48 => ⟨S16x10x500, .i32⟩
  | 49 => ⟨S_, .i32⟩
  | 50 => ⟨S16x10x500, .i32⟩
  | 51 => ⟨S16x10x500, .i1⟩
  | 52 => ⟨S_, .i32⟩
  | 53 => ⟨S16x10x500, .i32⟩
  | 54 => ⟨S16x10x500, .i1⟩
  | 55 => ⟨S_, .i32⟩
  | 56 => ⟨S_, .i1⟩
  | 57 => ⟨S16x10x500, .i1⟩
  | 58 => ⟨S16x10x500, .i1⟩
  | 59 => ⟨S16x10x500, .i1⟩
  | 60 => ⟨S16x10x500, .i32⟩
  | 61 => ⟨S16x10x500, .i32⟩
  | 62 => ⟨S16x10x500, .i32⟩
  | 63 => ⟨S_, .i32⟩
  | 64 => ⟨S16x10x500, .i32⟩
  | 65 => ⟨S16x10x500, .i32⟩
  | 66 => ⟨S1x16x10x500, .i32⟩
  | 67 => ⟨S16x10x500, .i32⟩
  | 68 => ⟨S1x1x500, .i32⟩
  | 69 => ⟨S16x10x500, .i32⟩
  | 70 => ⟨S16x10x500, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S16x10x500, .i32⟩
  | 78 => ⟨S16x10x500, .i32⟩
  | 79 => ⟨S_, .i32⟩
  | 80 => ⟨S16x10x500, .i32⟩
  | 81 => ⟨S16x10x500, .i1⟩
  | 82 => ⟨S_, .i32⟩
  | 83 => ⟨S16x10x500, .i32⟩
  | 84 => ⟨S16x10x500, .i1⟩
  | 85 => ⟨S_, .i32⟩
  | 86 => ⟨S_, .i1⟩
  | 87 => ⟨S16x10x500, .i1⟩
  | 88 => ⟨S16x10x500, .i1⟩
  | 89 => ⟨S16x10x500, .i1⟩
  | 90 => ⟨S16x10x500, .i32⟩
  | 91 => ⟨S16x10x500, .i32⟩
  | 92 => ⟨S16x10x500, .i32⟩
  | 93 => ⟨S_, .i32⟩
  | 94 => ⟨S16x10x500, .i32⟩
  | 95 => ⟨S16x10x500, .i32⟩
  | 96 => ⟨S1x16x10x500, .i32⟩
  | 97 => ⟨S16x10x500, .i32⟩
  | 98 => ⟨S1x1x500, .i32⟩
  | 99 => ⟨S16x10x500, .i32⟩
  | 100 => ⟨S16x10x500, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S16x10x500, .i32⟩
  | 108 => ⟨S16x10x500, .i32⟩
  | 109 => ⟨S_, .i32⟩
  | 110 => ⟨S16x10x500, .i32⟩
  | 111 => ⟨S16x10x500, .i1⟩
  | 112 => ⟨S_, .i32⟩
  | 113 => ⟨S16x10x500, .i32⟩
  | 114 => ⟨S16x10x500, .i1⟩
  | 115 => ⟨S_, .i32⟩
  | 116 => ⟨S_, .i1⟩
  | 117 => ⟨S16x10x500, .i1⟩
  | 118 => ⟨S16x10x500, .i1⟩
  | 119 => ⟨S16x10x500, .i1⟩
  | 120 => ⟨S16x10x500, .i32⟩
  | 121 => ⟨S16x10x500, .i32⟩
  | 122 => ⟨S16x10x500, .i32⟩
  | 123 => ⟨S_, .i32⟩
  | 124 => ⟨S16x10x500, .i32⟩
  | 125 => ⟨S16x10x500, .i32⟩
  | 126 => ⟨S1x16x10x500, .i32⟩
  | 127 => ⟨S16x10x500, .i32⟩
  | _ => ⟨S16x512x256, .f32⟩

abbrev hbmTy0_1 (i : Nat) : BufTy := match i % 128 with
  | 0 => ⟨S1x1x500, .i32⟩
  | 1 => ⟨S16x10x500, .i32⟩
  | 2 => ⟨S16x10x500, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S16x10x500, .i32⟩
  | 10 => ⟨S16x10x500, .i32⟩
  | 11 => ⟨S_, .i32⟩
  | 12 => ⟨S16x10x500, .i32⟩
  | 13 => ⟨S16x10x500, .i1⟩
  | 14 => ⟨S_, .i32⟩
  | 15 => ⟨S16x10x500, .i32⟩
  | 16 => ⟨S16x10x500, .i1⟩
  | 17 => ⟨S_, .i32⟩
  | 18 => ⟨S_, .i1⟩
  | 19 => ⟨S16x10x500, .i1⟩
  | 20 => ⟨S16x10x500, .i1⟩
  | 21 => ⟨S16x10x500, .i1⟩
  | 22 => ⟨S16x10x500, .i32⟩
  | 23 => ⟨S16x10x500, .i32⟩
  | 24 => ⟨S16x10x500, .i32⟩
  | 25 => ⟨S_, .i32⟩
  | 26 => ⟨S16x10x500, .i32⟩
  | 27 => ⟨S16x10x500, .i32⟩
  | 28 => ⟨S1x16x10x500, .i32⟩
  | 29 => ⟨S16x10x500, .i32⟩
  | 30 => ⟨S1x1x500, .i32⟩
  | 31 => ⟨S16x10x500, .i32⟩
  | 32 => ⟨S16x10x500, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S16x10x500, .i32⟩
  | 40 => ⟨S16x10x500, .i32⟩
  | 41 => ⟨S_, .i32⟩
  | 42 => ⟨S16x10x500, .i32⟩
  | 43 => ⟨S16x10x500, .i1⟩
  | 44 => ⟨S_, .i32⟩
  | 45 => ⟨S16x10x500, .i32⟩
  | 46 => ⟨S16x10x500, .i1⟩
  | 47 => ⟨S_, .i32⟩
  | 48 => ⟨S_, .i1⟩
  | 49 => ⟨S16x10x500, .i1⟩
  | 50 => ⟨S16x10x500, .i1⟩
  | 51 => ⟨S16x10x500, .i1⟩
  | 52 => ⟨S16x10x500, .i32⟩
  | 53 => ⟨S16x10x500, .i32⟩
  | 54 => ⟨S16x10x500, .i32⟩
  | 55 => ⟨S_, .i32⟩
  | 56 => ⟨S16x10x500, .i32⟩
  | 57 => ⟨S16x10x500, .i32⟩
  | 58 => ⟨S1x16x10x500, .i32⟩
  | 59 => ⟨S16x10x500, .i32⟩
  | 60 => ⟨S1x1x500, .i32⟩
  | 61 => ⟨S16x10x500, .i32⟩
  | 62 => ⟨S16x10x500, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S16x10x500, .i32⟩
  | 70 => ⟨S16x10x500, .i32⟩
  | 71 => ⟨S_, .i32⟩
  | 72 => ⟨S16x10x500, .i32⟩
  | 73 => ⟨S16x10x500, .i1⟩
  | 74 => ⟨S_, .i32⟩
  | 75 => ⟨S16x10x500, .i32⟩
  | 76 => ⟨S16x10x500, .i1⟩
  | 77 => ⟨S_, .i32⟩
  | 78 => ⟨S_, .i1⟩
  | 79 => ⟨S16x10x500, .i1⟩
  | 80 => ⟨S16x10x500, .i1⟩
  | 81 => ⟨S16x10x500, .i1⟩
  | 82 => ⟨S16x10x500, .i32⟩
  | 83 => ⟨S16x10x500, .i32⟩
  | 84 => ⟨S16x10x500, .i32⟩
  | 85 => ⟨S_, .i32⟩
  | 86 => ⟨S16x10x500, .i32⟩
  | 87 => ⟨S16x10x500, .i32⟩
  | 88 => ⟨S1x16x10x500, .i32⟩
  | 89 => ⟨S16x10x500, .i32⟩
  | 90 => ⟨S1x1x500, .i32⟩
  | 91 => ⟨S16x10x500, .i32⟩
  | 92 => ⟨S16x10x500, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S16x10x500, .i32⟩
  | 100 => ⟨S16x10x500, .i32⟩
  | 101 => ⟨S_, .i32⟩
  | 102 => ⟨S16x10x500, .i32⟩
  | 103 => ⟨S16x10x500, .i1⟩
  | 104 => ⟨S_, .i32⟩
  | 105 => ⟨S16x10x500, .i32⟩
  | 106 => ⟨S16x10x500, .i1⟩
  | 107 => ⟨S_, .i32⟩
  | 108 => ⟨S_, .i1⟩
  | 109 => ⟨S16x10x500, .i1⟩
  | 110 => ⟨S16x10x500, .i1⟩
  | 111 => ⟨S16x10x500, .i1⟩
  | 112 => ⟨S16x10x500, .i32⟩
  | 113 => ⟨S16x10x500, .i32⟩
  | 114 => ⟨S16x10x500, .i32⟩
  | 115 => ⟨S_, .i32⟩
  | 116 => ⟨S16x10x500, .i32⟩
  | 117 => ⟨S16x10x500, .i32⟩
  | 118 => ⟨S1x16x10x500, .i32⟩
  | 119 => ⟨S16x10x500, .i32⟩
  | 120 => ⟨S1x1x500, .i32⟩
  | 121 => ⟨S16x10x500, .i32⟩
  | 122 => ⟨S16x10x500, .i32⟩
  | 123 => ⟨S_, .i32⟩
  | 124 => ⟨S_, .i32⟩
  | 125 => ⟨S_, .i32⟩
  | 126 => ⟨S_, .i1⟩
  | 127 => ⟨S_, .i32⟩
  | _ => ⟨S16x512x256, .f32⟩

abbrev hbmTy0_2 (i : Nat) : BufTy := match i % 128 with
  | 0 => ⟨S_, .i32⟩
  | 1 => ⟨S16x10x500, .i32⟩
  | 2 => ⟨S16x10x500, .i32⟩
  | 3 => ⟨S_, .i32⟩
  | 4 => ⟨S16x10x500, .i32⟩
  | 5 => ⟨S16x10x500, .i1⟩
  | 6 => ⟨S_, .i32⟩
  | 7 => ⟨S16x10x500, .i32⟩
  | 8 => ⟨S16x10x500, .i1⟩
  | 9 => ⟨S_, .i32⟩
  | 10 => ⟨S_, .i1⟩
  | 11 => ⟨S16x10x500, .i1⟩
  | 12 => ⟨S16x10x500, .i1⟩
  | 13 => ⟨S16x10x500, .i1⟩
  | 14 => ⟨S16x10x500, .i32⟩
  | 15 => ⟨S16x10x500, .i32⟩
  | 16 => ⟨S16x10x500, .i32⟩
  | 17 => ⟨S_, .i32⟩
  | 18 => ⟨S16x10x500, .i32⟩
  | 19 => ⟨S16x10x500, .i32⟩
  | 20 => ⟨S1x16x10x500, .i32⟩
  | 21 => ⟨S16x10x500, .i32⟩
  | 22 => ⟨S1x1x500, .i32⟩
  | 23 => ⟨S16x10x500, .i32⟩
  | 24 => ⟨S16x10x500, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S16x10x500, .i32⟩
  | 32 => ⟨S16x10x500, .i32⟩
  | 33 => ⟨S_, .i32⟩
  | 34 => ⟨S16x10x500, .i32⟩
  | 35 => ⟨S16x10x500, .i1⟩
  | 36 => ⟨S_, .i32⟩
  | 37 => ⟨S16x10x500, .i32⟩
  | 38 => ⟨S16x10x500, .i1⟩
  | 39 => ⟨S_, .i32⟩
  | 40 => ⟨S_, .i1⟩
  | 41 => ⟨S16x10x500, .i1⟩
  | 42 => ⟨S16x10x500, .i1⟩
  | 43 => ⟨S16x10x500, .i1⟩
  | 44 => ⟨S16x10x500, .i32⟩
  | 45 => ⟨S16x10x500, .i32⟩
  | 46 => ⟨S16x10x500, .i32⟩
  | 47 => ⟨S_, .i32⟩
  | 48 => ⟨S16x10x500, .i32⟩
  | 49 => ⟨S16x10x500, .i32⟩
  | 50 => ⟨S1x16x10x500, .i32⟩
  | 51 => ⟨S16x10x500, .i32⟩
  | 52 => ⟨S1x1x500, .i32⟩
  | 53 => ⟨S16x10x500, .i32⟩
  | 54 => ⟨S16x10x500, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S16x10x500, .i32⟩
  | 62 => ⟨S16x10x500, .i32⟩
  | 63 => ⟨S_, .i32⟩
  | 64 => ⟨S16x10x500, .i32⟩
  | 65 => ⟨S16x10x500, .i1⟩
  | 66 => ⟨S_, .i32⟩
  | 67 => ⟨S16x10x500, .i32⟩
  | 68 => ⟨S16x10x500, .i1⟩
  | 69 => ⟨S_, .i32⟩
  | 70 => ⟨S_, .i1⟩
  | 71 => ⟨S16x10x500, .i1⟩
  | 72 => ⟨S16x10x500, .i1⟩
  | 73 => ⟨S16x10x500, .i1⟩
  | 74 => ⟨S16x10x500, .i32⟩
  | 75 => ⟨S16x10x500, .i32⟩
  | 76 => ⟨S16x10x500, .i32⟩
  | 77 => ⟨S_, .i32⟩
  | 78 => ⟨S16x10x500, .i32⟩
  | 79 => ⟨S16x10x500, .i32⟩
  | 80 => ⟨S1x16x10x500, .i32⟩
  | 81 => ⟨S16x10x500, .i32⟩
  | 82 => ⟨S1x1x500, .i32⟩
  | 83 => ⟨S16x10x500, .i32⟩
  | 84 => ⟨S16x10x500, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S16x10x500, .i32⟩
  | 92 => ⟨S16x10x500, .i32⟩
  | 93 => ⟨S_, .i32⟩
  | 94 => ⟨S16x10x500, .i32⟩
  | 95 => ⟨S16x10x500, .i1⟩
  | 96 => ⟨S_, .i32⟩
  | 97 => ⟨S16x10x500, .i32⟩
  | 98 => ⟨S16x10x500, .i1⟩
  | 99 => ⟨S_, .i32⟩
  | 100 => ⟨S_, .i1⟩
  | 101 => ⟨S16x10x500, .i1⟩
  | 102 => ⟨S16x10x500, .i1⟩
  | 103 => ⟨S16x10x500, .i1⟩
  | 104 => ⟨S16x10x500, .i32⟩
  | 105 => ⟨S16x10x500, .i32⟩
  | 106 => ⟨S16x10x500, .i32⟩
  | 107 => ⟨S_, .i32⟩
  | 108 => ⟨S16x10x500, .i32⟩
  | 109 => ⟨S16x10x500, .i32⟩
  | 110 => ⟨S1x16x10x500, .i32⟩
  | 111 => ⟨S1x16x10x500, .i32⟩
  | 112 => ⟨S1x16x10x500, .i32⟩
  | 113 => ⟨S1x16x10x500, .i32⟩
  | 114 => ⟨S1x16x10x500, .i32⟩
  | 115 => ⟨S1x16x10x500, .i32⟩
  | 116 => ⟨S1x16x10x500, .i32⟩
  | 117 => ⟨S1x16x10x500, .i32⟩
  | 118 => ⟨S1x16x10x500, .i32⟩
  | 119 => ⟨S1x16x10x500, .i32⟩
  | 120 => ⟨S1x16x10x500, .i32⟩
  | 121 => ⟨S1x16x10x500, .i32⟩
  | 122 => ⟨S12x16x10x500, .i32⟩
  | 123 => ⟨S16x12x10x500, .i32⟩
  | 124 => ⟨S3072x2048, .f32⟩
  | 125 => ⟨S1x3072, .f32⟩
  | 126 => ⟨S16x1x12, .f32⟩
  | 127 => ⟨S16x1x12, .f32⟩
  | _ => ⟨S16x512x256, .f32⟩

abbrev hbmTy0_3 (i : Nat) : BufTy := match i % 128 with
  | 0 => ⟨S_, .f32⟩
  | 1 => ⟨S12, .f32⟩
  | 2 => ⟨S_, .f32⟩
  | 3 => ⟨S12, .f32⟩
  | 4 => ⟨S12, .f32⟩
  | 5 => ⟨S_, .f32⟩
  | 6 => ⟨S_, .f32⟩
  | 7 => ⟨S_, .f32⟩
  | 8 => ⟨S_, .f32⟩
  | 9 => ⟨S_, .f32⟩
  | 10 => ⟨S12, .f32⟩
  | 11 => ⟨S_, .f32⟩
  | 12 => ⟨S12, .f32⟩
  | 13 => ⟨S12, .f32⟩
  | _ => ⟨S16x512x256, .f32⟩

abbrev hbmTy (i : Nat) : BufTy := match i / 128 with
  | 0 => hbmTy0_0 i
  | 1 => hbmTy0_1 i
  | 2 => hbmTy0_2 i
  | 3 => hbmTy0_3 i
  | _ => ⟨S16x512x256, .f32⟩

abbrev bufTy : (tb : Table) → Fin (tcTables nBuf tb) → BufTy
  | .hbm, ⟨i, _⟩ => hbmTy i
  | .local _ .vmem, ⟨0, _⟩ => ⟨S1x512x256, .f32⟩
  | .local _ .vmem, ⟨1, _⟩ => ⟨S1x512x256, .f32⟩
  | .local _ .vmem, ⟨2, _⟩ => ⟨S1x512x2048, .f32⟩
  | .local _ .vmem, ⟨3, _⟩ => ⟨S1x512x2048, .f32⟩
  | .local _ .vmem, ⟨4, _⟩ => ⟨S3072x2048, .f32⟩
  | .local _ .vmem, ⟨5, _⟩ => ⟨S1x3072, .f32⟩
  | .local _ .vmem, ⟨6, _⟩ => ⟨S1x12x10x500, .i32⟩
  | .local _ .vmem, ⟨7, _⟩ => ⟨S1x12x10x500, .i32⟩
  | .local _ .vmem, ⟨8, _⟩ => ⟨S1x1x12, .f32⟩
  | .local _ .vmem, ⟨9, _⟩ => ⟨S1x1x12, .f32⟩
  | .local _ .vmem, ⟨10, _⟩ => ⟨S1x1x12, .f32⟩
  | .local _ .vmem, ⟨11, _⟩ => ⟨S1x1x12, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v6 : Ref sig .tc := ⟨.hbm, 32, rfl⟩
abbrev main_c_0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v14 : Ref sig .tc := ⟨.hbm, 62, rfl⟩
abbrev main_c_2 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_3 : Ref sig .tc := ⟨.hbm, 71, rfl⟩
abbrev main_call2_v0 : Ref sig .tc := ⟨.hbm, 72, rfl⟩
abbrev main_call2_c : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_v5 : Ref sig .tc := ⟨.hbm, 80, rfl⟩
abbrev main_call2_v6 : Ref sig .tc := ⟨.hbm, 81, rfl⟩
abbrev main_call2_c_2 : Ref sig .tc := ⟨.hbm, 82, rfl⟩
abbrev main_call2_v7 : Ref sig .tc := ⟨.hbm, 83, rfl⟩
abbrev main_call2_v8 : Ref sig .tc := ⟨.hbm, 84, rfl⟩
abbrev main_call2_c_3 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_v22 : Ref sig .tc := ⟨.hbm, 92, rfl⟩
abbrev main_c_4 : Ref sig .tc := ⟨.hbm, 93, rfl⟩
abbrev main_v23 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_c_5 : Ref sig .tc := ⟨.hbm, 101, rfl⟩
abbrev main_call3_v0 : Ref sig .tc := ⟨.hbm, 102, rfl⟩
abbrev main_call3_c : Ref sig .tc := ⟨.hbm, 103, rfl⟩
abbrev main_call3_v1 : Ref sig .tc := ⟨.hbm, 104, rfl⟩
abbrev main_call3_c_0 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_c_1 : Ref sig .tc := ⟨.hbm, 109, rfl⟩
abbrev main_call3_v5 : Ref sig .tc := ⟨.hbm, 110, rfl⟩
abbrev main_call3_v6 : Ref sig .tc := ⟨.hbm, 111, rfl⟩
abbrev main_call3_c_2 : Ref sig .tc := ⟨.hbm, 112, rfl⟩
abbrev main_call3_v7 : Ref sig .tc := ⟨.hbm, 113, rfl⟩
abbrev main_call3_v8 : Ref sig .tc := ⟨.hbm, 114, rfl⟩
abbrev main_call3_c_3 : Ref sig .tc := ⟨.hbm, 115, rfl⟩
abbrev main_call3_v9 : Ref sig .tc := ⟨.hbm, 116, rfl⟩
abbrev main_call3_v10 : Ref sig .tc := ⟨.hbm, 117, rfl⟩
abbrev main_call3_v11 : Ref sig .tc := ⟨.hbm, 118, rfl⟩
abbrev main_call3_v12 : Ref sig .tc := ⟨.hbm, 119, rfl⟩
abbrev main_call3_v13 : Ref sig .tc := ⟨.hbm, 120, rfl⟩
abbrev main_call3_v14 : Ref sig .tc := ⟨.hbm, 121, rfl⟩
abbrev main_v30 : Ref sig .tc := ⟨.hbm, 122, rfl⟩
abbrev main_c_6 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_c_7 : Ref sig .tc := ⟨.hbm, 131, rfl⟩
abbrev main_call4_v0 : Ref sig .tc := ⟨.hbm, 132, rfl⟩
abbrev main_call4_c : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_c_1 : Ref sig .tc := ⟨.hbm, 139, rfl⟩
abbrev main_call4_v5 : Ref sig .tc := ⟨.hbm, 140, rfl⟩
abbrev main_call4_v6 : Ref sig .tc := ⟨.hbm, 141, rfl⟩
abbrev main_call4_c_2 : Ref sig .tc := ⟨.hbm, 142, rfl⟩
abbrev main_call4_v7 : Ref sig .tc := ⟨.hbm, 143, rfl⟩
abbrev main_call4_v8 : Ref sig .tc := ⟨.hbm, 144, rfl⟩
abbrev main_call4_c_3 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_v12 : Ref sig .tc := ⟨.hbm, 149, rfl⟩
abbrev main_call4_v13 : Ref sig .tc := ⟨.hbm, 150, rfl⟩
abbrev main_call4_v14 : Ref sig .tc := ⟨.hbm, 151, rfl⟩
abbrev main_v38 : Ref sig .tc := ⟨.hbm, 152, rfl⟩
abbrev main_c_8 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_c_9 : Ref sig .tc := ⟨.hbm, 161, rfl⟩
abbrev main_call5_v0 : Ref sig .tc := ⟨.hbm, 162, rfl⟩
abbrev main_call5_c : Ref sig .tc := ⟨.hbm, 163, rfl⟩
abbrev main_call5_v1 : Ref sig .tc := ⟨.hbm, 164, rfl⟩
abbrev main_call5_c_0 : Ref sig .tc := ⟨.hbm, 165, rfl⟩
abbrev main_call5_v2 : Ref sig .tc := ⟨.hbm, 166, rfl⟩
abbrev main_call5_v3 : Ref sig .tc := ⟨.hbm, 167, rfl⟩
abbrev main_call5_v4 : Ref sig .tc := ⟨.hbm, 168, rfl⟩
abbrev main_call5_c_1 : Ref sig .tc := ⟨.hbm, 169, rfl⟩
abbrev main_call5_v5 : Ref sig .tc := ⟨.hbm, 170, rfl⟩
abbrev main_call5_v6 : Ref sig .tc := ⟨.hbm, 171, rfl⟩
abbrev main_call5_c_2 : Ref sig .tc := ⟨.hbm, 172, rfl⟩
abbrev main_call5_v7 : Ref sig .tc := ⟨.hbm, 173, rfl⟩
abbrev main_call5_v8 : Ref sig .tc := ⟨.hbm, 174, rfl⟩
abbrev main_call5_c_3 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_v12 : Ref sig .tc := ⟨.hbm, 179, rfl⟩
abbrev main_call5_v13 : Ref sig .tc := ⟨.hbm, 180, rfl⟩
abbrev main_call5_v14 : Ref sig .tc := ⟨.hbm, 181, rfl⟩
abbrev main_v46 : Ref sig .tc := ⟨.hbm, 182, rfl⟩
abbrev main_c_10 : Ref sig .tc := ⟨.hbm, 183, rfl⟩
abbrev main_v47 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_v51 : Ref sig .tc := ⟨.hbm, 188, rfl⟩
abbrev main_v52 : Ref sig .tc := ⟨.hbm, 189, rfl⟩
abbrev main_v53 : Ref sig .tc := ⟨.hbm, 190, rfl⟩
abbrev main_c_11 : Ref sig .tc := ⟨.hbm, 191, rfl⟩
abbrev main_call6_v0 : Ref sig .tc := ⟨.hbm, 192, rfl⟩
abbrev main_call6_c : Ref sig .tc := ⟨.hbm, 193, rfl⟩
abbrev main_call6_v1 : Ref sig .tc := ⟨.hbm, 194, rfl⟩
abbrev main_call6_c_0 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_call6_c_1 : Ref sig .tc := ⟨.hbm, 199, rfl⟩
abbrev main_call6_v5 : Ref sig .tc := ⟨.hbm, 200, rfl⟩
abbrev main_call6_v6 : Ref sig .tc := ⟨.hbm, 201, rfl⟩
abbrev main_call6_c_2 : Ref sig .tc := ⟨.hbm, 202, rfl⟩
abbrev main_call6_v7 : Ref sig .tc := ⟨.hbm, 203, rfl⟩
abbrev main_call6_v8 : Ref sig .tc := ⟨.hbm, 204, rfl⟩
abbrev main_call6_c_3 : Ref sig .tc := ⟨.hbm, 205, rfl⟩
abbrev main_call6_v9 : Ref sig .tc := ⟨.hbm, 206, rfl⟩
abbrev main_call6_v10 : Ref sig .tc := ⟨.hbm, 207, rfl⟩
abbrev main_call6_v11 : Ref sig .tc := ⟨.hbm, 208, rfl⟩
abbrev main_call6_v12 : Ref sig .tc := ⟨.hbm, 209, rfl⟩
abbrev main_call6_v13 : Ref sig .tc := ⟨.hbm, 210, rfl⟩
abbrev main_call6_v14 : Ref sig .tc := ⟨.hbm, 211, rfl⟩
abbrev main_v54 : Ref sig .tc := ⟨.hbm, 212, rfl⟩
abbrev main_c_12 : Ref sig .tc := ⟨.hbm, 213, rfl⟩
abbrev main_v55 : Ref sig .tc := ⟨.hbm, 214, rfl⟩
abbrev main_v56 : Ref sig .tc := ⟨.hbm, 215, rfl⟩
abbrev main_v57 : Ref sig .tc := ⟨.hbm, 216, rfl⟩
abbrev main_v58 : Ref sig .tc := ⟨.hbm, 217, rfl⟩
abbrev main_v59 : Ref sig .tc := ⟨.hbm, 218, rfl⟩
abbrev main_v60 : Ref sig .tc := ⟨.hbm, 219, rfl⟩
abbrev main_v61 : Ref sig .tc := ⟨.hbm, 220, rfl⟩
abbrev main_c_13 : Ref sig .tc := ⟨.hbm, 221, rfl⟩
abbrev main_call7_v0 : Ref sig .tc := ⟨.hbm, 222, rfl⟩
abbrev main_call7_c : Ref sig .tc := ⟨.hbm, 223, rfl⟩
abbrev main_call7_v1 : Ref sig .tc := ⟨.hbm, 224, rfl⟩
abbrev main_call7_c_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_c_1 : Ref sig .tc := ⟨.hbm, 229, rfl⟩
abbrev main_call7_v5 : Ref sig .tc := ⟨.hbm, 230, rfl⟩
abbrev main_call7_v6 : Ref sig .tc := ⟨.hbm, 231, rfl⟩
abbrev main_call7_c_2 : Ref sig .tc := ⟨.hbm, 232, rfl⟩
abbrev main_call7_v7 : Ref sig .tc := ⟨.hbm, 233, rfl⟩
abbrev main_call7_v8 : Ref sig .tc := ⟨.hbm, 234, rfl⟩
abbrev main_call7_c_3 : Ref sig .tc := ⟨.hbm, 235, rfl⟩
abbrev main_call7_v9 : Ref sig .tc := ⟨.hbm, 236, rfl⟩
abbrev main_call7_v10 : Ref sig .tc := ⟨.hbm, 237, rfl⟩
abbrev main_call7_v11 : Ref sig .tc := ⟨.hbm, 238, rfl⟩
abbrev main_call7_v12 : Ref sig .tc := ⟨.hbm, 239, rfl⟩
abbrev main_call7_v13 : Ref sig .tc := ⟨.hbm, 240, rfl⟩
abbrev main_call7_v14 : Ref sig .tc := ⟨.hbm, 241, rfl⟩
abbrev main_v62 : Ref sig .tc := ⟨.hbm, 242, rfl⟩
abbrev main_c_14 : Ref sig .tc := ⟨.hbm, 243, rfl⟩
abbrev main_v63 : Ref sig .tc := ⟨.hbm, 244, rfl⟩
abbrev main_v64 : Ref sig .tc := ⟨.hbm, 245, rfl⟩
abbrev main_v65 : Ref sig .tc := ⟨.hbm, 246, rfl⟩
abbrev main_v66 : Ref sig .tc := ⟨.hbm, 247, rfl⟩
abbrev main_v67 : Ref sig .tc := ⟨.hbm, 248, rfl⟩
abbrev main_v68 : Ref sig .tc := ⟨.hbm, 249, rfl⟩
abbrev main_v69 : Ref sig .tc := ⟨.hbm, 250, rfl⟩
abbrev main_c_15 : Ref sig .tc := ⟨.hbm, 251, rfl⟩
abbrev main_call8_v0 : Ref sig .tc := ⟨.hbm, 252, rfl⟩
abbrev main_call8_c : Ref sig .tc := ⟨.hbm, 253, rfl⟩
abbrev main_call8_v1 : Ref sig .tc := ⟨.hbm, 254, rfl⟩
abbrev main_call8_c_0 : Ref sig .tc := ⟨.hbm, 255, rfl⟩
abbrev main_call8_v2 : Ref sig .tc := ⟨.hbm, 256, rfl⟩
abbrev main_call8_v3 : Ref sig .tc := ⟨.hbm, 257, rfl⟩
abbrev main_call8_v4 : Ref sig .tc := ⟨.hbm, 258, rfl⟩
abbrev main_call8_c_1 : Ref sig .tc := ⟨.hbm, 259, rfl⟩
abbrev main_call8_v5 : Ref sig .tc := ⟨.hbm, 260, rfl⟩
abbrev main_call8_v6 : Ref sig .tc := ⟨.hbm, 261, rfl⟩
abbrev main_call8_c_2 : Ref sig .tc := ⟨.hbm, 262, rfl⟩
abbrev main_call8_v7 : Ref sig .tc := ⟨.hbm, 263, rfl⟩
abbrev main_call8_v8 : Ref sig .tc := ⟨.hbm, 264, rfl⟩
abbrev main_call8_c_3 : Ref sig .tc := ⟨.hbm, 265, rfl⟩
abbrev main_call8_v9 : Ref sig .tc := ⟨.hbm, 266, rfl⟩
abbrev main_call8_v10 : Ref sig .tc := ⟨.hbm, 267, rfl⟩
abbrev main_call8_v11 : Ref sig .tc := ⟨.hbm, 268, rfl⟩
abbrev main_call8_v12 : Ref sig .tc := ⟨.hbm, 269, rfl⟩
abbrev main_call8_v13 : Ref sig .tc := ⟨.hbm, 270, rfl⟩
abbrev main_call8_v14 : Ref sig .tc := ⟨.hbm, 271, rfl⟩
abbrev main_v70 : Ref sig .tc := ⟨.hbm, 272, rfl⟩
abbrev main_c_16 : Ref sig .tc := ⟨.hbm, 273, rfl⟩
abbrev main_v71 : Ref sig .tc := ⟨.hbm, 274, rfl⟩
abbrev main_v72 : Ref sig .tc := ⟨.hbm, 275, rfl⟩
abbrev main_v73 : Ref sig .tc := ⟨.hbm, 276, rfl⟩
abbrev main_v74 : Ref sig .tc := ⟨.hbm, 277, rfl⟩
abbrev main_v75 : Ref sig .tc := ⟨.hbm, 278, rfl⟩
abbrev main_v76 : Ref sig .tc := ⟨.hbm, 279, rfl⟩
abbrev main_v77 : Ref sig .tc := ⟨.hbm, 280, rfl⟩
abbrev main_c_17 : Ref sig .tc := ⟨.hbm, 281, rfl⟩
abbrev main_call9_v0 : Ref sig .tc := ⟨.hbm, 282, rfl⟩
abbrev main_call9_c : Ref sig .tc := ⟨.hbm, 283, rfl⟩
abbrev main_call9_v1 : Ref sig .tc := ⟨.hbm, 284, rfl⟩
abbrev main_call9_c_0 : Ref sig .tc := ⟨.hbm, 285, rfl⟩
abbrev main_call9_v2 : Ref sig .tc := ⟨.hbm, 286, rfl⟩
abbrev main_call9_v3 : Ref sig .tc := ⟨.hbm, 287, rfl⟩
abbrev main_call9_v4 : Ref sig .tc := ⟨.hbm, 288, rfl⟩
abbrev main_call9_c_1 : Ref sig .tc := ⟨.hbm, 289, rfl⟩
abbrev main_call9_v5 : Ref sig .tc := ⟨.hbm, 290, rfl⟩
abbrev main_call9_v6 : Ref sig .tc := ⟨.hbm, 291, rfl⟩
abbrev main_call9_c_2 : Ref sig .tc := ⟨.hbm, 292, rfl⟩
abbrev main_call9_v7 : Ref sig .tc := ⟨.hbm, 293, rfl⟩
abbrev main_call9_v8 : Ref sig .tc := ⟨.hbm, 294, rfl⟩
abbrev main_call9_c_3 : Ref sig .tc := ⟨.hbm, 295, rfl⟩
abbrev main_call9_v9 : Ref sig .tc := ⟨.hbm, 296, rfl⟩
abbrev main_call9_v10 : Ref sig .tc := ⟨.hbm, 297, rfl⟩
abbrev main_call9_v11 : Ref sig .tc := ⟨.hbm, 298, rfl⟩
abbrev main_call9_v12 : Ref sig .tc := ⟨.hbm, 299, rfl⟩
abbrev main_call9_v13 : Ref sig .tc := ⟨.hbm, 300, rfl⟩
abbrev main_call9_v14 : Ref sig .tc := ⟨.hbm, 301, rfl⟩
abbrev main_v78 : Ref sig .tc := ⟨.hbm, 302, rfl⟩
abbrev main_c_18 : Ref sig .tc := ⟨.hbm, 303, rfl⟩
abbrev main_v79 : Ref sig .tc := ⟨.hbm, 304, rfl⟩
abbrev main_v80 : Ref sig .tc := ⟨.hbm, 305, rfl⟩
abbrev main_v81 : Ref sig .tc := ⟨.hbm, 306, rfl⟩
abbrev main_v82 : Ref sig .tc := ⟨.hbm, 307, rfl⟩
abbrev main_v83 : Ref sig .tc := ⟨.hbm, 308, rfl⟩
abbrev main_v84 : Ref sig .tc := ⟨.hbm, 309, rfl⟩
abbrev main_v85 : Ref sig .tc := ⟨.hbm, 310, rfl⟩
abbrev main_c_19 : Ref sig .tc := ⟨.hbm, 311, rfl⟩
abbrev main_call10_v0 : Ref sig .tc := ⟨.hbm, 312, rfl⟩
abbrev main_call10_c : Ref sig .tc := ⟨.hbm, 313, rfl⟩
abbrev main_call10_v1 : Ref sig .tc := ⟨.hbm, 314, rfl⟩
abbrev main_call10_c_0 : Ref sig .tc := ⟨.hbm, 315, rfl⟩
abbrev main_call10_v2 : Ref sig .tc := ⟨.hbm, 316, rfl⟩
abbrev main_call10_v3 : Ref sig .tc := ⟨.hbm, 317, rfl⟩
abbrev main_call10_v4 : Ref sig .tc := ⟨.hbm, 318, rfl⟩
abbrev main_call10_c_1 : Ref sig .tc := ⟨.hbm, 319, rfl⟩
abbrev main_call10_v5 : Ref sig .tc := ⟨.hbm, 320, rfl⟩
abbrev main_call10_v6 : Ref sig .tc := ⟨.hbm, 321, rfl⟩
abbrev main_call10_c_2 : Ref sig .tc := ⟨.hbm, 322, rfl⟩
abbrev main_call10_v7 : Ref sig .tc := ⟨.hbm, 323, rfl⟩
abbrev main_call10_v8 : Ref sig .tc := ⟨.hbm, 324, rfl⟩
abbrev main_call10_c_3 : Ref sig .tc := ⟨.hbm, 325, rfl⟩
abbrev main_call10_v9 : Ref sig .tc := ⟨.hbm, 326, rfl⟩
abbrev main_call10_v10 : Ref sig .tc := ⟨.hbm, 327, rfl⟩
abbrev main_call10_v11 : Ref sig .tc := ⟨.hbm, 328, rfl⟩
abbrev main_call10_v12 : Ref sig .tc := ⟨.hbm, 329, rfl⟩
abbrev main_call10_v13 : Ref sig .tc := ⟨.hbm, 330, rfl⟩
abbrev main_call10_v14 : Ref sig .tc := ⟨.hbm, 331, rfl⟩
abbrev main_v86 : Ref sig .tc := ⟨.hbm, 332, rfl⟩
abbrev main_c_20 : Ref sig .tc := ⟨.hbm, 333, rfl⟩
abbrev main_v87 : Ref sig .tc := ⟨.hbm, 334, rfl⟩
abbrev main_v88 : Ref sig .tc := ⟨.hbm, 335, rfl⟩
abbrev main_v89 : Ref sig .tc := ⟨.hbm, 336, rfl⟩
abbrev main_v90 : Ref sig .tc := ⟨.hbm, 337, rfl⟩
abbrev main_v91 : Ref sig .tc := ⟨.hbm, 338, rfl⟩
abbrev main_v92 : Ref sig .tc := ⟨.hbm, 339, rfl⟩
abbrev main_v93 : Ref sig .tc := ⟨.hbm, 340, rfl⟩
abbrev main_c_21 : Ref sig .tc := ⟨.hbm, 341, rfl⟩
abbrev main_call11_v0 : Ref sig .tc := ⟨.hbm, 342, rfl⟩
abbrev main_call11_c : Ref sig .tc := ⟨.hbm, 343, rfl⟩
abbrev main_call11_v1 : Ref sig .tc := ⟨.hbm, 344, rfl⟩
abbrev main_call11_c_0 : Ref sig .tc := ⟨.hbm, 345, rfl⟩
abbrev main_call11_v2 : Ref sig .tc := ⟨.hbm, 346, rfl⟩
abbrev main_call11_v3 : Ref sig .tc := ⟨.hbm, 347, rfl⟩
abbrev main_call11_v4 : Ref sig .tc := ⟨.hbm, 348, rfl⟩
abbrev main_call11_c_1 : Ref sig .tc := ⟨.hbm, 349, rfl⟩
abbrev main_call11_v5 : Ref sig .tc := ⟨.hbm, 350, rfl⟩
abbrev main_call11_v6 : Ref sig .tc := ⟨.hbm, 351, rfl⟩
abbrev main_call11_c_2 : Ref sig .tc := ⟨.hbm, 352, rfl⟩
abbrev main_call11_v7 : Ref sig .tc := ⟨.hbm, 353, rfl⟩
abbrev main_call11_v8 : Ref sig .tc := ⟨.hbm, 354, rfl⟩
abbrev main_call11_c_3 : Ref sig .tc := ⟨.hbm, 355, rfl⟩
abbrev main_call11_v9 : Ref sig .tc := ⟨.hbm, 356, rfl⟩
abbrev main_call11_v10 : Ref sig .tc := ⟨.hbm, 357, rfl⟩
abbrev main_call11_v11 : Ref sig .tc := ⟨.hbm, 358, rfl⟩
abbrev main_call11_v12 : Ref sig .tc := ⟨.hbm, 359, rfl⟩
abbrev main_call11_v13 : Ref sig .tc := ⟨.hbm, 360, rfl⟩
abbrev main_call11_v14 : Ref sig .tc := ⟨.hbm, 361, rfl⟩
abbrev main_v94 : Ref sig .tc := ⟨.hbm, 362, rfl⟩
abbrev main_c_22 : Ref sig .tc := ⟨.hbm, 363, rfl⟩
abbrev main_v95 : Ref sig .tc := ⟨.hbm, 364, rfl⟩
abbrev main_v96 : Ref sig .tc := ⟨.hbm, 365, rfl⟩
abbrev main_v97 : Ref sig .tc := ⟨.hbm, 366, rfl⟩
abbrev main_v98 : Ref sig .tc := ⟨.hbm, 367, rfl⟩
abbrev main_v99 : Ref sig .tc := ⟨.hbm, 368, rfl⟩
abbrev main_v100 : Ref sig .tc := ⟨.hbm, 369, rfl⟩
abbrev main_v101 : Ref sig .tc := ⟨.hbm, 370, rfl⟩
abbrev main_v102 : Ref sig .tc := ⟨.hbm, 371, rfl⟩
abbrev main_v103 : Ref sig .tc := ⟨.hbm, 372, rfl⟩
abbrev main_v104 : Ref sig .tc := ⟨.hbm, 373, rfl⟩
abbrev main_v105 : Ref sig .tc := ⟨.hbm, 374, rfl⟩
abbrev main_v106 : Ref sig .tc := ⟨.hbm, 375, rfl⟩
abbrev main_v107 : Ref sig .tc := ⟨.hbm, 376, rfl⟩
abbrev main_v108 : Ref sig .tc := ⟨.hbm, 377, rfl⟩
abbrev main_v109 : Ref sig .tc := ⟨.hbm, 378, rfl⟩
abbrev main_v110 : Ref sig .tc := ⟨.hbm, 379, rfl⟩
abbrev main_v111 : Ref sig .tc := ⟨.hbm, 380, rfl⟩
abbrev main_v112 : Ref sig .tc := ⟨.hbm, 381, rfl⟩
abbrev main_v113_0 : Ref sig .tc := ⟨.hbm, 382, rfl⟩
abbrev main_v113_1 : Ref sig .tc := ⟨.hbm, 383, rfl⟩
abbrev main_cst : Ref sig .tc := ⟨.hbm, 384, rfl⟩
abbrev main_v114 : Ref sig .tc := ⟨.hbm, 385, rfl⟩
abbrev main_cst_23 : Ref sig .tc := ⟨.hbm, 386, rfl⟩
abbrev main_v115 : Ref sig .tc := ⟨.hbm, 387, rfl⟩
abbrev main_v116 : Ref sig .tc := ⟨.hbm, 388, rfl⟩
abbrev main_cst_24 : Ref sig .tc := ⟨.hbm, 389, rfl⟩
abbrev main_v117 : Ref sig .tc := ⟨.hbm, 390, rfl⟩
abbrev main_cst_25 : Ref sig .tc := ⟨.hbm, 391, rfl⟩
abbrev main_v118 : Ref sig .tc := ⟨.hbm, 392, rfl⟩
abbrev main_cst_26 : Ref sig .tc := ⟨.hbm, 393, rfl⟩
abbrev main_v119 : Ref sig .tc := ⟨.hbm, 394, rfl⟩
abbrev main_cst_27 : Ref sig .tc := ⟨.hbm, 395, rfl⟩
abbrev main_v120 : Ref sig .tc := ⟨.hbm, 396, rfl⟩
abbrev main_v121 : Ref sig .tc := ⟨.hbm, 397, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3072x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x12x10x500 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x12 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x12 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x512x256 : Shape := ⟨3, ![16, 512, 256]⟩
abbrev S16x512x2048 : Shape := ⟨3, ![16, 512, 2048]⟩
abbrev S12x256x2048 : Shape := ⟨3, ![12, 256, 2048]⟩
abbrev S12x256 : Shape := ⟨2, ![12, 256]⟩
abbrev S12x16x10x500 : Shape := ⟨4, ![12, 16, 10, 500]⟩
abbrev S16x500x2048 : Shape := ⟨3, ![16, 500, 2048]⟩
abbrev S12 : Shape := ⟨1, ![12]⟩
abbrev S12x1x1x1 : Shape := ⟨4, ![12, 1, 1, 1]⟩
abbrev S16 : Shape := ⟨1, ![16]⟩
abbrev S1x16x1x1 : Shape := ⟨4, ![1, 16, 1, 1]⟩
abbrev S16x500x256 : Shape := ⟨3, ![16, 500, 256]⟩
abbrev S1x16x500x256 : Shape := ⟨4, ![1, 16, 500, 256]⟩
abbrev S12x16x500x256 : Shape := ⟨4, ![12, 16, 500, 256]⟩
abbrev S12x256x16x500 : Shape := ⟨4, ![12, 256, 16, 500]⟩
abbrev S12x1x1x256 : Shape := ⟨4, ![12, 1, 1, 256]⟩
abbrev S500 : Shape := ⟨1, ![500]⟩
abbrev S1x1x1x500 : Shape := ⟨4, ![1, 1, 1, 500]⟩
abbrev S_ : Shape := ⟨0, ![]⟩
abbrev S12x16x10x500x1 : Shape := ⟨5, ![12, 16, 10, 500, 1]⟩
abbrev S12x16x10x500x3 : Shape := ⟨5, ![12, 16, 10, 500, 3]⟩
abbrev S12x16x10x500x256 : Shape := ⟨5, ![12, 16, 10, 500, 256]⟩
abbrev S12x16x1x500x256 : Shape := ⟨5, ![12, 16, 1, 500, 256]⟩
abbrev S12x16x11x500x256 : Shape := ⟨5, ![12, 16, 11, 500, 256]⟩
abbrev S12x16x11x500 : Shape := ⟨4, ![12, 16, 11, 500]⟩
abbrev S12x16x500 : Shape := ⟨3, ![12, 16, 500]⟩
abbrev S12x16x1x500 : Shape := ⟨4, ![12, 16, 1, 500]⟩

abbrev nBuf : Space → Nat
  | .hbm => 140
  | .vmem => 0
  | .smem => 0
  | _ => 0

abbrev hbmTy0_0 (i : Nat) : BufTy := match i % 128 with
  | 0 => ⟨S16x512x256, .f32⟩
  | 1 => ⟨S16x512x2048, .f32⟩
  | 2 => ⟨S12x256x2048, .f32⟩
  | 3 => ⟨S12x256, .f32⟩
  | 4 => ⟨S12x16x10x500, .i32⟩
  | 5 => ⟨S16x500x2048, .f32⟩
  | 6 => ⟨S12, .i32⟩
  | 7 => ⟨S12x1x1x1, .i32⟩
  | 8 => ⟨S16, .i32⟩
  | 9 => ⟨S1x16x1x1, .i32⟩
  | 10 => ⟨S16x500x256, .f32⟩
  | 11 => ⟨S16x500x256, .f32⟩
  | 12 => ⟨S16x500x256, .f32⟩
  | 13 => ⟨S16x500x256, .f32⟩
  | 14 => ⟨S16x500x256, .f32⟩
  | 15 => ⟨S16x500x256, .f32⟩
  | 16 => ⟨S16x500x256, .f32⟩
  | 17 => ⟨S16x500x256, .f32⟩
  | 18 => ⟨S16x500x256, .f32⟩
  | 19 => ⟨S16x500x256, .f32⟩
  | 20 => ⟨S16x500x256, .f32⟩
  | 21 => ⟨S16x500x256, .f32⟩
  | 22 => ⟨S1x16x500x256, .f32⟩
  | 23 => ⟨S1x16x500x256, .f32⟩
  | 24 => ⟨S1x16x500x256, .f32⟩
  | 25 => ⟨S1x16x500x256, .f32⟩
  | 26 => ⟨S1x16x500x256, .f32⟩
  | 27 => ⟨S1x16x500x256, .f32⟩
  | 28 => ⟨S1x16x500x256, .f32⟩
  | 29 => ⟨S1x16x500x256, .f32⟩
  | 30 => ⟨S1x16x500x256, .f32⟩
  | 31 => ⟨S1x16x500x256, .f32⟩
  | 32 => ⟨S1x16x500x256, .f32⟩
  | 33 => ⟨S1x16x500x256, .f32⟩
  | 34 => ⟨S12x16x500x256, .f32⟩
  | 35 => ⟨S12x256x16x500, .f32⟩
  | 36 => ⟨S12x16x500x256, .f32⟩
  | 37 => ⟨S12x1x1x256, .f32⟩
  | 38 => ⟨S12x16x500x256, .f32⟩
  | 39 => ⟨S12x16x500x256, .f32⟩
  | 40 => ⟨S500, .i32⟩
  | 41 => ⟨S1x1x1x500, .i32⟩
  | 42 => ⟨S12x16x10x500, .i32⟩
  | 43 => ⟨S12x16x10x500, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S12x16x10x500, .i32⟩
  | 51 => ⟨S12x16x10x500, .i32⟩
  | 52 => ⟨S_, .i32⟩
  | 53 => ⟨S12x16x10x500, .i32⟩
  | 54 => ⟨S12x16x10x500, .i1⟩
  | 55 => ⟨S_, .i32⟩
  | 56 => ⟨S12x16x10x500, .i32⟩
  | 57 => ⟨S12x16x10x500, .i1⟩
  | 58 => ⟨S_, .i32⟩
  | 59 => ⟨S_, .i1⟩
  | 60 => ⟨S12x16x10x500, .i1⟩
  | 61 => ⟨S12x16x10x500, .i1⟩
  | 62 => ⟨S12x16x10x500, .i1⟩
  | 63 => ⟨S12x16x10x500, .i32⟩
  | 64 => ⟨S12x16x10x500, .i32⟩
  | 65 => ⟨S12x16x10x500, .i32⟩
  | 66 => ⟨S_, .i32⟩
  | 67 => ⟨S12x1x1x1, .i32⟩
  | 68 => ⟨S12x1x1x1, .i1⟩
  | 69 => ⟨S_, .i32⟩
  | 70 => ⟨S12x1x1x1, .i32⟩
  | 71 => ⟨S12x1x1x1, .i32⟩
  | 72 => ⟨S12x1x1x1, .i32⟩
  | 73 => ⟨S_, .i32⟩
  | 74 => ⟨S1x16x1x1, .i32⟩
  | 75 => ⟨S1x16x1x1, .i1⟩
  | 76 => ⟨S_, .i32⟩
  | 77 => ⟨S1x16x1x1, .i32⟩
  | 78 => ⟨S1x16x1x1, .i32⟩
  | 79 => ⟨S1x16x1x1, .i32⟩
  | 80 => ⟨S_, .i32⟩
  | 81 => ⟨S12x16x10x500, .i32⟩
  | 82 => ⟨S12x16x10x500, .i1⟩
  | 83 => ⟨S_, .i32⟩
  | 84 => ⟨S12x16x10x500, .i32⟩
  | 85 => ⟨S12x16x10x500, .i32⟩
  | 86 => ⟨S12x16x10x500, .i32⟩
  | 87 => ⟨S12x16x10x500, .i32⟩
  | 88 => ⟨S12x16x10x500, .i32⟩
  | 89 => ⟨S12x16x10x500x1, .i32⟩
  | 90 => ⟨S12x16x10x500x1, .i32⟩
  | 91 => ⟨S12x16x10x500x1, .i32⟩
  | 92 => ⟨S12x16x10x500x3, .i32⟩
  | 93 => ⟨S12x16x10x500x256, .f32⟩
  | 94 => ⟨S12x16x1x500x256, .f32⟩
  | 95 => ⟨S12x16x11x500x256, .f32⟩
  | 96 => ⟨S12x16x1x500x256, .f32⟩
  | 97 => ⟨S12x16x11x500x256, .f32⟩
  | 98 => ⟨S12x16x11x500x256, .f32⟩
  | 99 => ⟨S_, .f32⟩
  | 100 => ⟨S12x16x11x500, .f32⟩
  | 101 => ⟨S_, .f32⟩
  | 102 => ⟨S12x16x11x500, .f32⟩
  | 103 => ⟨S12x16x11x500, .f32⟩
  | 104 => ⟨S_, .f32⟩
  | 105 => ⟨S12x16x500, .f32⟩
  | 106 => ⟨S12x16x1x500, .f32⟩
  | 107 => ⟨S12x16x11x500, .f32⟩
  | 108 => ⟨S12x16x11x500, .f32⟩
  | 109 => ⟨S12x16x11x500, .f32⟩
  | 110 => ⟨S_, .f32⟩
  | 111 => ⟨S12x16x500, .f32⟩
  | 112 => ⟨S12x16x500, .f32⟩
  | 113 => ⟨S12x16x500, .f32⟩
  | 114 => ⟨S12x16x1x500, .f32⟩
  | 115 => ⟨S12x16x500, .f32⟩
  | 116 => ⟨S12x16x500, .f32⟩
  | 117 => ⟨S_, .f32⟩
  | 118 => ⟨S12, .f32⟩
  | 119 => ⟨S_, .f32⟩
  | 120 => ⟨S12, .f32⟩
  | 121 => ⟨S12, .f32⟩
  | 122 => ⟨S_, .f32⟩
  | 123 => ⟨S_, .f32⟩
  | 124 => ⟨S_, .f32⟩
  | 125 => ⟨S_, .f32⟩
  | 126 => ⟨S12x16x11x500, .i32⟩
  | 127 => ⟨S_, .f32⟩
  | _ => ⟨S16x512x256, .f32⟩

abbrev hbmTy0_1 (i : Nat) : BufTy := match i % 128 with
  | 0 => ⟨S_, .i32⟩
  | 1 => ⟨S12x16x500, .f32⟩
  | 2 => ⟨S12x16x500, .i32⟩
  | 3 => ⟨S_, .i32⟩
  | 4 => ⟨S12x16x500, .i32⟩
  | 5 => ⟨S12x16x500, .i1⟩
  | 6 => ⟨S12x16x500, .f32⟩
  | 7 => ⟨S_, .f32⟩
  | 8 => ⟨S12, .f32⟩
  | 9 => ⟨S_, .f32⟩
  | 10 => ⟨S12, .f32⟩
  | 11 => ⟨S12, .f32⟩
  | _ => ⟨S16x512x256, .f32⟩

abbrev hbmTy (i : Nat) : BufTy := match i / 128 with
  | 0 => hbmTy0_0 i
  | 1 => hbmTy0_1 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_c : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v39 : Ref sig .tc := ⟨.hbm, 65, rfl⟩
abbrev main_c_0 : Ref sig .tc := ⟨.hbm, 66, rfl⟩
abbrev main_v40 : Ref sig .tc := ⟨.hbm, 67, rfl⟩
abbrev main_v41 : Ref sig .tc := ⟨.hbm, 68, rfl⟩
abbrev main_c_1 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_2 : Ref sig .tc := ⟨.hbm, 73, rfl⟩
abbrev main_v45 : Ref sig .tc := ⟨.hbm, 74, rfl⟩
abbrev main_v46 : Ref sig .tc := ⟨.hbm, 75, rfl⟩
abbrev main_c_3 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_c_4 : Ref sig .tc := ⟨.hbm, 80, rfl⟩
abbrev main_v50 : Ref sig .tc := ⟨.hbm, 81, rfl⟩
abbrev main_v51 : Ref sig .tc := ⟨.hbm, 82, rfl⟩
abbrev main_c_5 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst : Ref sig .tc := ⟨.hbm, 99, rfl⟩
abbrev main_v67 : Ref sig .tc := ⟨.hbm, 100, rfl⟩
abbrev main_cst_6 : Ref sig .tc := ⟨.hbm, 101, rfl⟩
abbrev main_v68 : Ref sig .tc := ⟨.hbm, 102, rfl⟩
abbrev main_v69 : Ref sig .tc := ⟨.hbm, 103, rfl⟩
abbrev main_cst_7 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_8 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_9 : Ref sig .tc := ⟨.hbm, 117, rfl⟩
abbrev main_v81 : Ref sig .tc := ⟨.hbm, 118, rfl⟩
abbrev main_cst_10 : Ref sig .tc := ⟨.hbm, 119, rfl⟩
abbrev main_v82 : Ref sig .tc := ⟨.hbm, 120, rfl⟩
abbrev main_v83 : Ref sig .tc := ⟨.hbm, 121, rfl⟩
abbrev main_cst_11 : Ref sig .tc := ⟨.hbm, 122, rfl⟩
abbrev main_v84 : Ref sig .tc := ⟨.hbm, 123, rfl⟩
abbrev main_cst_12 : Ref sig .tc := ⟨.hbm, 124, rfl⟩
abbrev main_v85 : Ref sig .tc := ⟨.hbm, 125, rfl⟩
abbrev main_call1_v0 : Ref sig .tc := ⟨.hbm, 126, rfl⟩
abbrev main_call1_cst : Ref sig .tc := ⟨.hbm, 127, rfl⟩
abbrev main_call1_c : Ref sig .tc := ⟨.hbm, 128, rfl⟩
abbrev main_call1_v1_0 : Ref sig .tc := ⟨.hbm, 129, rfl⟩
abbrev main_v86 : Ref sig .tc := ⟨.hbm, 130, rfl⟩
abbrev main_c_13 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_14 : Ref sig .tc := ⟨.hbm, 135, rfl⟩
abbrev main_v90 : Ref sig .tc := ⟨.hbm, 136, rfl⟩
abbrev main_cst_15 : Ref sig .tc := ⟨.hbm, 137, rfl⟩
abbrev main_v91 : Ref sig .tc := ⟨.hbm, 138, rfl⟩
abbrev main_v92 : Ref sig .tc := ⟨.hbm, 139, rfl⟩

abbrev nD : Nat := 1
abbrev τ : Topo := Topo.v7x

variable {F : FTy → Type} [FloatOps F]
-- ==== Proof.RefOps.lean ====
/- The reference as a list of operations, and each stage of it as a function of arrays. -/
module

public import proofs.«01_k».proof.Proof.Gen.ReferenceIdeal
public import Idealize.ShloMosaic.Lib.StableHlo.Run
public import Idealize.ShloMosaic.Lib.Claim

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Twelve arrays of one step each, put together along the steps. -/
def catSteps (u0 u1 u2 u3 u4 u5 u6 u7 u8 u9 u10 u11 : FVec F S1x16x500x256 .f32) : FVec F S12x16x500x256 .f32 :=
  concatenate S12x16x500x256 0 [⟨S1x16x500x256, u0⟩, ⟨S1x16x500x256, u1⟩, ⟨S1x16x500x256, u2⟩, ⟨S1x16x500x256, u3⟩, ⟨S1x16x500x256, u4⟩, ⟨S1x16x500x256, u5⟩, ⟨S1x16x500x256, u6⟩, ⟨S1x16x500x256, u7⟩, ⟨S1x16x500x256, u8⟩, ⟨S1x16x500x256, u9⟩, ⟨S1x16x500x256, u10⟩, ⟨S1x16x500x256, u11⟩] concatenates_S1x16x500x256_S1x16x500x256_S1x16x500x256_S1x16x500x256_S1x16x500x256_S1x16x500x256_S1x16x500x256_S1x16x500x256_S1x16x500x256_S1x16x500x256_S1x16x500x256_S1x16x500x256_S12x16x500x256_d0

/-- Three coordinates put together to one index. -/
def catIndex (u0 u1 u2 : IVec S12x16x10x500x1 32) : IVec S12x16x10x500x3 32 :=
  concatenate S12x16x10x500x3 4 [⟨S12x16x10x500x1, u0⟩, ⟨S12x16x10x500x1, u1⟩, ⟨S12x16x10x500x1, u2⟩]
    concatenates_S12x16x10x500x1_S12x16x10x500x1_S12x16x10x500x1_S12x16x10x500x3_d4

/-- The true latents put before the drawn ones. -/
def catNeg (a : FVec F S12x16x1x500x256 .f32) (b : FVec F S12x16x10x500x256 .f32) : FVec F S12x16x11x500x256 .f32 :=
  concatenate S12x16x11x500x256 2 [⟨S12x16x1x500x256, a⟩, ⟨S12x16x10x500x256, b⟩] concatenates_S12x16x1x500x256_S12x16x10x500x256_S12x16x11x500x256_d2

/-- The latents from frame `k` on, as one step. -/
def shiftOne (x : FVec F S16x512x256 .f32) (k : ℕ) (h : S16x512x256.Slices ![0, k, 0] S16x500x256) : FVec F S1x16x500x256 .f32 :=
  broadcastInDim S1x16x500x256 ![1, 2, 3] bcast_S16x500x256_S1x16x500x256_1_2_3 (extractStridedSlice S16x500x256 ![0, k, 0] x h)

/-- The latents, shifted by one to twelve frames. -/
def shifted (x : FVec F S16x512x256 .f32) : FVec F S12x16x500x256 .f32 :=
  catSteps (shiftOne x 1 slices_S16x512x256_S16x500x256_0_1_0) (shiftOne x 2 slices_S16x512x256_S16x500x256_0_2_0) (shiftOne x 3 slices_S16x512x256_S16x500x256_0_3_0) (shiftOne x 4 slices_S16x512x256_S16x500x256_0_4_0) (shiftOne x 5 slices_S16x512x256_S16x500x256_0_5_0) (shiftOne x 6 slices_S16x512x256_S16x500x256_0_6_0) (shiftOne x 7 slices_S16x512x256_S16x500x256_0_7_0) (shiftOne x 8 slices_S16x512x256_S16x500x256_0_8_0) (shiftOne x 9 slices_S16x512x256_S16x500x256_0_9_0) (shiftOne x 10 slices_S16x512x256_S16x500x256_0_10_0) (shiftOne x 11 slices_S16x512x256_S16x500x256_0_11_0) (shiftOne x 12 slices_S16x512x256_S16x500x256_0_12_0)

/-- The context, projected for every step. -/
def projected (c : FVec F S16x512x2048 .f32) (w : FVec F S12x256x2048 .f32) (b : FVec F S12x256 .f32) : FVec F S12x16x500x256 .f32 :=
  addf (transpose S12x16x500x256 [0, 2, 3, 1] (Host.dotGeneral dot_S12x256x2048_S16x500x2048_S12x256x16x500_2_2_01_01_n_n none w
      (extractStridedSlice S16x500x2048 ![0, 0, 0] c slices_S16x512x2048_S16x500x2048_0_0_0)) transposes_S12x256x16x500_S12x16x500x256_0_2_3_1)
    (broadcastInDim S12x16x500x256 ![0, 1, 2, 3] bcast_S12x1x1x256_S12x16x500x256_0_1_2_3
      (broadcastInDim S12x1x1x256 ![0, 3] bcast_S12x256_S12x1x1x256_0_3 b))

/-- The number of every step. -/
def stepNo : IVec S12x1x1x1 32 := broadcastInDim S12x1x1x1 ![0] bcast_S12_S12x1x1x1_0 (iotaInDim S12 32 0)

/-- The number of every sequence. -/
def seqNo : IVec S1x16x1x1 32 := broadcastInDim S1x16x1x1 ![1] bcast_S16_S1x16x1x1_1 (iotaInDim S16 32 0)

/-- The draws, each moved by its frame. -/
def moved (d : IVec S12x16x10x500 32) : IVec S12x16x10x500 32 :=
  addi d (broadcastInDim S12x16x10x500 ![0, 1, 2, 3] bcast_S1x1x1x500_S12x16x10x500_0_1_2_3
    (broadcastInDim S1x1x1x500 ![3] bcast_S500_S1x1x1x500_3 (iotaInDim S500 32 0)))

/-- The divisor of the remainder: 500, or one in the place of zero. -/
def divisor : IVec S_ 32 :=
  select (cmpi .eq (id (constantI S_ 32 500#32)) (constantI S_ 32 0#32)) (constantI S_ 32 1#32) (id (constantI S_ 32 500#32))

/-- The truncated remainder of the moved draws. -/
def remainder (d : IVec S12x16x10x500 32) : IVec S12x16x10x500 32 :=
  Host.remsi (moved d) (broadcastInDim S12x16x10x500 ![] bcast_S_S12x16x10x500 divisor)

/-- The remainder of the moved draws with the divisor's sign. -/
def frames (d : IVec S12x16x10x500 32) : IVec S12x16x10x500 32 :=
  select (andi (cmpi .ne (cmpi .slt (remainder d) (broadcastInDim S12x16x10x500 ![] bcast_S_S12x16x10x500 (constantI S_ 32 0#32)))
        (broadcastInDim S12x16x10x500 ![] bcast_S_S12x16x10x500 (cmpi .slt divisor (constantI S_ 32 0#32))))
      (cmpi .ne (remainder d) (broadcastInDim S12x16x10x500 ![] bcast_S_S12x16x10x500 (constantI S_ 32 0#32))))
    (addi (remainder d) (broadcastInDim S12x16x10x500 ![] bcast_S_S12x16x10x500 divisor)) (remainder d)

/-- Step numbers as an index's first coordinate, a negative one counted from the end. -/
def stepIx (s : IVec S12x1x1x1 32) : IVec S12x16x10x500x1 32 :=
  broadcastInDim S12x16x10x500x1 ![0, 1, 2, 3] bcast_S12x16x10x500_S12x16x10x500x1_0_1_2_3
    (broadcastInDim S12x16x10x500 ![0, 1, 2, 3] bcast_S12x1x1x1_S12x16x10x500_0_1_2_3
      (select (cmpi .slt s (broadcastInDim S12x1x1x1 ![] bcast_S_S12x1x1x1 (constantI S_ 32 0#32)))
        (addi s (broadcastInDim S12x1x1x1 ![] bcast_S_S12x1x1x1 (constantI S_ 32 12#32))) s))

/-- Sequence numbers as an index's second coordinate, a negative one counted from the end. -/
def seqIx (s : IVec S1x16x1x1 32) : IVec S12x16x10x500x1 32 :=
  broadcastInDim S12x16x10x500x1 ![0, 1, 2, 3] bcast_S12x16x10x500_S12x16x10x500x1_0_1_2_3
    (broadcastInDim S12x16x10x500 ![0, 1, 2, 3] bcast_S1x16x1x1_S12x16x10x500_0_1_2_3
      (select (cmpi .slt s (broadcastInDim S1x16x1x1 ![] bcast_S_S1x16x1x1 (constantI S_ 32 0#32)))
        (addi s (broadcastInDim S1x16x1x1 ![] bcast_S_S1x16x1x1 (constantI S_ 32 16#32))) s))

/-- Frames as an index's third coordinate, a negative one counted from the end. -/
def frameIx (s : IVec S12x16x10x500 32) : IVec S12x16x10x500x1 32 :=
  broadcastInDim S12x16x10x500x1 ![0, 1, 2, 3] bcast_S12x16x10x500_S12x16x10x500x1_0_1_2_3
    (select (cmpi .slt s (broadcastInDim S12x16x10x500 ![] bcast_S_S12x16x10x500 (constantI S_ 32 0#32)))
      (addi s (broadcastInDim S12x16x10x500 ![] bcast_S_S12x16x10x500 (constantI S_ 32 500#32))) s)

/-- The drawn latents: for every index, the latent there. -/
def negatives (zs : FVec F S12x16x500x256 .f32) (p : IVec S12x1x1x1 32) (q : IVec S1x16x1x1 32) (d : IVec S12x16x10x500 32) :
    FVec F S12x16x10x500x256 .f32 :=
  Host.gather gather_S12x16x500x256_S12x16x10x500x3_S12x16x10x500x256_4_012_n_n_012_4_111256 zs
    (catIndex (stepIx p) (seqIx q) (frameIx (frames d)))

/-- The scores of the true latent and of the drawn ones. -/
def scored (zs : FVec F S12x16x500x256 .f32) (wc : FVec F S12x16x500x256 .f32) (ng : FVec F S12x16x10x500x256 .f32) :
    FVec F S12x16x11x500 .f32 :=
  Host.divf (Host.reduceAdd (mulf (catNeg (broadcastInDim S12x16x1x500x256 ![0, 1, 3, 4] bcast_S12x16x500x256_S12x16x1x500x256_0_1_3_4 zs) ng)
      (broadcastInDim S12x16x11x500x256 ![0, 1, 2, 3, 4] bcast_S12x16x1x500x256_S12x16x11x500x256_0_1_2_3_4
        (broadcastInDim S12x16x1x500x256 ![0, 1, 3, 4] bcast_S12x16x500x256_S12x16x1x500x256_0_1_3_4 wc)))
      (constant S_ .f32 0x00000000#32) reducesTo_S12x16x11x500x256_S12x16x11x500_d4 h_S_)
    (broadcastInDim S12x16x11x500 ![] bcast_S_S12x16x11x500 (constant S_ .f32 0x41800000#32))

/-- The largest of the eleven scores. -/
def topScore (f : FVec F S12x16x11x500 .f32) : FVec F S12x16x500 .f32 :=
  Host.reduce FloatOps.maximumf f (constant S_ .f32 0xFF800000#32) reducesTo_S12x16x11x500_S12x16x500_d2 h_S_

/-- The cross entropy at every step, sequence and frame. -/
def entropies (f : FVec F S12x16x11x500 .f32) : FVec F S12x16x500 .f32 :=
  subf (addf (Host.log (Host.reduceAdd (Host.exp (subf f (broadcastInDim S12x16x11x500 ![0, 1, 2, 3] bcast_S12x16x1x500_S12x16x11x500_0_1_2_3
        (broadcastInDim S12x16x1x500 ![0, 1, 3] bcast_S12x16x500_S12x16x1x500_0_1_3 (topScore f)))))
      (constant S_ .f32 0x00000000#32) reducesTo_S12x16x11x500_S12x16x500_d2 h_S_)) (topScore f))
    (shapeCast S12x16x500 (extractStridedSlice S12x16x1x500 ![0, 0, 0, 0] f slices_S12x16x11x500_S12x16x1x500_0_0_0_0)
      shapeCasts_S12x16x1x500_S12x16x500)

/-- The mean over the sequences and frames of every step. -/
def stepMean (g : FVec F S12x16x500 .f32) : FVec F S12 .f32 :=
  Host.divf (Host.reduceAdd g (constant S_ .f32 0x00000000#32) reducesTo_S12x16x500_S12_d1_2 h_S_)
    (broadcastInDim S12 ![] bcast_S_S12 (constant S_ .f32 0x45FA0000#32))

/-- The total loss: the mean over the steps. -/
def totalLoss (f : FVec F S12x16x11x500 .f32) : FVec F S_ .f32 :=
  Host.divf (Host.reduceAdd (stepMean (entropies f)) (constant S_ .f32 0x00000000#32) reducesTo_S12_S_d0 h_S_)
    (constant S_ .f32 0x41400000#32)

/-- The place of the largest of the eleven scores. -/
def best (f : FVec F S12x16x11x500 .f32) : IVec S12x16x500 32 := fun j =>
  (Host.argReduce reducer_argmax_f32_i32 f (iotaInDim S12x16x11x500 32 2) (constant S_ .f32 0xFF800000#32) (constantI S_ 32 0#32)
    reducesTo_S12x16x11x500_S12x16x500_d2 h_S_ j).2

/-- One where the true latent's score is the largest, else zero. -/
def correct (f : FVec F S12x16x11x500 .f32) : FVec F S12x16x500 .f32 :=
  uitofp .f32 (cmpi .eq (best f) (broadcastInDim S12x16x500 ![] bcast_S_S12x16x500 (constantI S_ 32 0#32)))

/-- The operations that compute the shifted latents and the projected context. -/
abbrev opsA : List (HloOp τ sig (Elt F)) :=
  [ unary main_arg1 main_v0 ((extractStridedSlice S16x500x2048 ![0, 0, 0] · slices_S16x512x2048_S16x500x2048_0_0_0) : (⟨S16x512x2048, .f32⟩ : BufTy).Contents (Elt F) → (⟨S16x500x2048, .f32⟩ : BufTy).Contents (Elt F)),
    nullary main_v1 (iotaInDim S12 32 0),
    unary main_v1 main_v2 (broadcastInDim S12x1x1x1 ![0] bcast_S12_S12x1x1x1_0 : (⟨S12, .i32⟩ : BufTy).Contents (Elt F) → (⟨S12x1x1x1, .i32⟩ : BufTy).Contents (Elt F)),
    nullary main_v3 (iotaInDim S16 32 0),
    unary main_v3 main_v4 (broadcastInDim S1x16x1x1 ![1] bcast_S16_S1x16x1x1_1 : (⟨S16, .i32⟩ : BufTy).Contents (Elt F) → (⟨S1x16x1x1, .i32⟩ : BufTy).Contents (Elt F)),
    unary main_arg0 main_v5 ((extractStridedSlice S16x500x256 ![0, 1, 0] · slices_S16x512x256_S16x500x256_0_1_0) : (⟨S16x512x256, .f32⟩ : BufTy).Contents (Elt F) → (⟨S16x500x256, .f32⟩ : BufTy).Contents (Elt F)),
    unary main_arg0 main_v6 ((extractStridedSlice S16x500x256 ![0, 2, 0] · slices_S16x512x256_S16x500x256_0_2_0) : (⟨S16x512x256, .f32⟩ : BufTy).Contents (Elt F) → (⟨S16x500x256, .f32⟩ : BufTy).Contents (Elt F)),
    unary main_arg0 main_v7 ((extractStridedSlice S16x500x256 ![0, 3, 0] · slices_S16x512x256_S16x500x256_0_3_0) : (⟨S16x512x256, .f32⟩ : BufTy).Contents (Elt F) → (⟨S16x500x256, .f32⟩ : BufTy).Contents (Elt F)),
    unary main_arg0 main_v8 ((extractStridedSlice S16x500x256 ![0, 4, 0] · slices_S16x512x256_S16x500x256_0_4_0) : (⟨S16x512x256, .f32⟩ : BufTy).Contents (Elt F) → (⟨S16x500x256, .f32⟩ : BufTy).Contents (Elt F)),
    unary main_arg0 main_v9 ((extractStridedSlice S16x500x256 ![0, 5, 0] · slices_S16x512x256_S16x500x256_0_5_0) : (⟨S16x512x256, .f32⟩ : BufTy).Contents (Elt F) → (⟨S16x500x256, .f32⟩ : BufTy).Contents (Elt F)),
    unary main_arg0 main_v10 ((extractStridedSlice S16x500x256 ![0, 6, 0] · slices_S16x512x256_S16x500x256_0_6_0) : (⟨S16x512x256, .f32⟩ : BufTy).Contents (Elt F) → (⟨S16x500x256, .f32⟩ : BufTy).Contents (Elt F)),
    unary main_arg0 main_v11 ((extractStridedSlice S16x500x256 ![0, 7, 0] · slices_S16x512x256_S16x500x256_0_7_0) : (⟨S16x512x256, .f32⟩ : BufTy).Contents (Elt F) → (⟨S16x500x256, .f32⟩ : BufTy).Contents (Elt F)),
    unary main_arg0 main_v12 ((extractStridedSlice S16x500x256 ![0, 8, 0] · slices_S16x512x256_S16x500x256_0_8_0) : (⟨S16x512x256, .f32⟩ : BufTy).Contents (Elt F) → (⟨S16x500x256, .f32⟩ : BufTy).Contents (Elt F)),
    unary main_arg0 main_v13 ((extractStridedSlice S16x500x256 ![0, 9, 0] · slices_S16x512x256_S16x500x256_0_9_0) : (⟨S16x512x256, .f32⟩ : BufTy).Contents (Elt F) → (⟨S16x500x256, .f32⟩ : BufTy).Contents (Elt F)),
    unary main_arg0 main_v14 ((extractStridedSlice S16x500x256 ![0, 10, 0] · slices_S16x512x256_S16x500x256_0_10_0) : (⟨S16x512x256, .f32⟩ : BufTy).Contents (Elt F) → (⟨S16x500x256, .f32⟩ : BufTy).Contents (Elt F)),
    unary main_arg0 main_v15 ((extractStridedSlice S16x500x256 ![0, 11, 0] · slices_S16x512x256_S16x500x256_0_11_0) : (⟨S16x512x256, .f32⟩ : BufTy).Contents (Elt F) → (⟨S16x500x256, .f32⟩ : BufTy).Contents (Elt F)),
    unary main_arg0 main_v16 ((extractStridedSlice S16x500x256 ![0, 12, 0] · slices_S16x512x256_S16x500x256_0_12_0) : (⟨S16x512x256, .f32⟩ : BufTy).Contents (Elt F) → (⟨S16x500x256, .f32⟩ : BufTy).Contents (Elt F)),
    unary main_v5 main_v17 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v6 main_v18 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v7 main_v19 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v8 main_v20 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v9 main_v21 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v10 main_v22 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v11 main_v23 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v12 main_v24 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v13 main_v25 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v14 main_v26 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v15 main_v27 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    unary main_v16 main_v28 (broadcastInDim S1x16x500x256 ![1, 2, 3] bcast_S16x500x256_S1x16x500x256_1_2_3 : (⟨S16x500x256, .f32⟩ : BufTy).Contents (Elt F) → (⟨S1x16x500x256, .f32⟩ : BufTy).Contents (Elt F)),
    nary ![main_v17, main_v18, main_v19, main_v20, main_v21, main_v22, main_v23, main_v24, main_v25, main_v26, main_v27, main_v28] main_v29 (fun u => catSteps (F := F) (u 0) (u 1) (u 2) (u 3) (u 4) (u 5) (u 6) (u 7) (u 8) (u 9) (u 10) (u 11)),
    binary main_arg2 main_v0 main_v30 ((fun l r => Host.dotGeneral dot_S12x256x2048_S16x500x2048_S12x256x16x500_2_2_01_01_n_n none l r) : (⟨S12x256x2048, .f32⟩ : BufTy).Contents (Elt F) → (⟨S16x500x2048, .f32⟩ : BufTy).Contents (Elt F) → (⟨S12x256x16x500, .f32⟩ : BufTy).Contents (Elt F)),
    unary main_v30 main_v31 ((transpose S12x16x500x256 [0, 2, 3, 1] · transposes_S12x256x16x500_S12x16x500x256_0_2_3_1) : (⟨S12x256x16x500, .f32⟩ : BufTy).Contents (Elt F) → (⟨S12x16x500x256, .f32⟩ : BufTy).Contents (Elt F)),
    unary main_arg3 main_v32 (broadcastInDim S12x1x1x256 ![0, 3] bcast_S12x256_S12x1x1x256_0_3 : (⟨S12x256, .f32⟩ : BufTy).Contents (Elt F) → (⟨S12x1x1x256, .f32⟩ : BufTy).Contents (Elt F)),
    unary main_v32 main_v33 (broadcastInDim S12x16x500x256 ![0, 1, 2, 3] bcast_S12x1x1x256_S12x16x500x256_0_1_2_3 : (⟨S12x1x1x256, .f32⟩ : BufTy).Contents (Elt F) → (⟨S12x16x500x256, .f32⟩ : BufTy).Contents (Elt F)),
    binary main_v31 main_v33 main_v34 (addf : (⟨S12x16x500x256, .f32⟩ : BufTy).Contents (Elt F) → (⟨S12x16x500x256, .f32⟩ : BufTy).Contents (Elt F) → (⟨S12x16x500x256, .f32⟩ : BufTy).Contents (Elt F)) ]

theorem opsA_sub : (opsA : List (HloOp τ sig (Elt F))).Forall fun op => op.bufs ⊆ tcRefs τ sig :=
  ⟨unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., binary_bufs_sub .., unary_bufs_sub .., unary_bufs_sub .., unary_bufs_sub .., binary_bufs_sub ..⟩

/-- The operations that compute the drawn latents. -/
abbrev opsB : List (HloOp τ sig (Elt F)) :=
  [ nullary main_v35 (iotaInDim S500 32 0),
    unary main_v35 main_v36 (broadcastInDim S1x1x1x500 ![3] bcast_S500_S1x1x1x500_3 : (⟨S500, .i32⟩ : BufTy).Contents (Elt F) → (⟨S1x1x1x500, .i32⟩ : BufTy).Contents (Elt F)),
    unary main_v36 main_v37 (broadcastInDim S12x16x10x500 ![0, 1, 2, 3] bcast_S1x1x1x500_S12x16x10x500_0_1_2_3 : (⟨S1x1x1x500, .i32⟩ : BufTy).Contents (Elt F) → (⟨S12x16x10x500, .i32⟩ : BufTy).Contents (Elt F)),
    binary main_arg4 main_v37 main_v38 (addi : (⟨S12x16x10x500, .i32⟩ : BufTy).Contents (Elt F) → (⟨S12x16x10x500, .i32⟩ : BufTy).Contents (Elt F) → (⟨S12x16x10x500, .i32⟩ : BufTy).Contents (Elt F)),
    nullary main_c (constantI S_ 32 500#32),
    TRef.unary (TRef.of (T := ⟨S_, .i32⟩) main_c) (TRef.of (T := ⟨S_, .i32⟩) main_call0_v0) id,
    TRef.nullary (TRef.of (T := ⟨S_, .i32⟩) main_call0_c) (constantI S_ 32 0#32),
    TRef.binary (TRef.of (T := ⟨S_, .i32⟩) main_call0_v0) (TRef.of (T := ⟨S_, .i32⟩) main_call0_c) (TRef.of (T := ⟨S_, .i1⟩) main_call0_v1) (cmpi .eq),
    TRef.nullary (TRef.of (T := ⟨S_, .i32⟩) main_call0_c_0) (constantI S_ 32 1#32),
    TRef.ternary (TRef.of (T := ⟨S_, .i1⟩) main_call0_v1) (TRef.of (T := ⟨S_, .i32⟩) main_call0_c_0) (TRef.of (T := ⟨S_, .i32⟩) main_call0_v0) (TRef.of (T := ⟨S_, .i32⟩) main_call0_v2) select,
    TRef.unary (TRef.of (T := ⟨S_, .i32⟩) main_call0_v2) (TRef.of (T := ⟨S12x16x10x500, .i32⟩) main_call0_v3) (broadcastInDim S12x16x10x500 ![] bcast_S_S12x16x10x500),
    TRef.binary (TRef.of (T := ⟨S12x16x10x500, .i32⟩) main_v38) (TRef.of (T := ⟨S12x16x10x500, .i32⟩) main_call0_v3) (TRef.of (T := ⟨S12x16x10x500, .i32⟩) main_call0_v4) Host.remsi,
    TRef.nullary (TRef.of (T := ⟨S_, .i32⟩) main_call0_c_1) (constantI S_ 32 0#32),
    TRef.unary (TRef.of (T := ⟨S_, .i32⟩) main_call0_c_1) (TRef.of (T := ⟨S12x16x10x500, .i32⟩) main_call0_v5) (broadcastInDim S12x16x10x500 ![] bcast_S_S12x16x10x500),
    TRef.binary (TRef.of (T := ⟨S12x16x10x500, .i32⟩) main_call0_v4) (TRef.of (T := ⟨S12x16x10x500, .i32⟩) main_call0_v5) (TRef.of (T := ⟨S12x16x10x500, .i1⟩) main_call0_v6) (cmpi .ne),
    TRef.nullary (TRef.of (T := ⟨S_, .i32⟩) main_call0_c_2) (constantI S_ 32 0#32),
    TRef.unary (TRef.of (T := ⟨S_, .i32⟩) main_call0_c_2) (TRef.of (T := ⟨S12x16x10x500, .i32⟩) main_call0_v7) (broadcastInDim S12x16x10x500 ![] bcast_S_S12x16x10x500),
    TRef.binary (TRef.of (T := ⟨S12x16x10x500, .i32⟩) main_call0_v4) (TRef.of (T := ⟨S12x16x10x500, .i32⟩) main_call0_v7) (TRef.of (T := ⟨S12x16x10x500, .i1⟩) main_call0_v8) (cmpi .slt),
    TRef.nullary (TRef.of (T := ⟨S_, .i32⟩) main_call0_c_3) (constantI S_ 32 0#32),
    TRef.binary (TRef.of (T := ⟨S_, .i32⟩) main_call0_v2) (TRef.of (T := ⟨S_, .i32⟩) main_call0_c_3) (TRef.of (T := ⟨S_, .i1⟩) main_call0_v9) (cmpi .slt),
    TRef.unary (TRef.of (T := ⟨S_, .i1⟩) main_call0_v9) (TRef.of (T := ⟨S12x16x10x500, .i1⟩) main_call0_v10) (broadcastInDim S12x16x10x500 ![] bcast_S_S12x16x10x500),
    TRef.binary (TRef.of (T := ⟨S12x16x10x500, .i1⟩) main_call0_v8) (TRef.of (T := ⟨S12x16x10x500, .i1⟩) main_call0_v10) (TRef.of (T := ⟨S12x16x10x500, .i1⟩) main_call0_v11) (cmpi .ne),
    TRef.binary (TRef.of (T := ⟨S12x16x10x500, .i1⟩) main_call0_v11) (TRef.of (T := ⟨S12x16x10x500, .i1⟩) main_call0_v6) (TRef.of (T := ⟨S12x16x10x500, .i1⟩) main_call0_v12) andi,
    TRef.unary (TRef.of (T := ⟨S_, .i32⟩) main_call0_v2) (TRef.of (T := ⟨S12x16x10x500, .i32⟩) main_call0_v13) (broadcastInDim S12x16x10x500 ![] bcast_S_S12x16x10x500),
    TRef.binary (TRef.of (T := ⟨S12x16x10x500, .i32⟩) main_call0_v4) (TRef.of (T := ⟨S12x16x10x500, .i32⟩) main_call0_v13) (TRef.of (T := ⟨S12x16x10x500, .i32⟩) main_call0_v14) addi,
    TRef.ternary (TRef.of (T := ⟨S12x16x10x500, .i1⟩) main_call0_v12) (TRef.of (T := ⟨S12x16x10x500, .i32⟩) main_call0_v14) (TRef.of (T := ⟨S12x16x10x500, .i32⟩) main_call0_v4) (TRef.of (T := ⟨S12x16x10x500, .i32⟩) main_v39) select,
    nullary main_c_0 (constantI S_ 32 0#32),
    unary main_c_0 main_v40 (broadcastInDim S12x1x1x1 ![] bcast_S_S12x1x1x1 : (⟨S_, .i32⟩ : BufTy).Contents (Elt F) → (⟨S12x1x1x1, .i32⟩ : BufTy).Contents (Elt F)),
    binary main_v2 main_v40 main_v41 (cmpi .slt : (⟨S12x1x1x1, .i32⟩ : BufTy).Contents (Elt F) → (⟨S12x1x1x1, .i32⟩ : BufTy).Contents (Elt F) → (⟨S12x1x1x1, .i1⟩ : BufTy).Contents (Elt F)),
    nullary main_c_1 (constantI S_ 32 12#32),
    unary main_c_1 main_v42 (broadcastInDim S12x1x1x1 ![] bcast_S_S12x1x1x1 : (⟨S_, .i32⟩ : BufTy).Contents (Elt F) → (⟨S12x1x1x1, .i32⟩ : BufTy).Contents (Elt F)),
    binary main_v2 main_v42 main_v43 (addi : (⟨S12x1x1x1, .i32⟩ : BufTy).Contents (Elt F) → (⟨S12x1x1x1, .i32⟩ : BufTy).Contents (Elt F) → (⟨S12x1x1x1, .i32⟩ : BufTy).Contents (Elt F)),
    ternary main_v41 main_v43 main_v2 main_v44 (select : (⟨S12x1x1x1, .i1⟩ : BufTy).Contents (Elt F) → (⟨S12x1x1x1, .i32⟩ : BufTy).Contents (Elt F) → (⟨S12x1x1x1, .i32⟩ : BufTy).Contents (Elt F) → (⟨S12x1x1x1, .i32⟩ : BufTy).Contents (Elt F)),
    nullary main_c_2 (constantI S_ 32 0#32),
    unary main_c_2 main_v45 (broadcastInDim S1x16x1x1 ![] bcast_S_S1x16x1x1 : (⟨S_, .i32⟩ : BufTy).Contents (Elt F) → (⟨S1x16x1x1, .i32⟩ : BufTy).Contents (Elt F)),
    binary main_v4 main_v45 main_v46 (cmpi .slt : (⟨S1x16x1x1, .i32⟩ : BufTy).Contents (Elt F) → (⟨S1x16x1x1, .i32⟩ : BufTy).Contents (Elt F) → (⟨S1x16x1x1, .i1⟩ : BufTy).Contents (Elt F)),
    nullary main_c_3 (constantI S_ 32 16#32),
    unary main_c_3 main_v47 (broadcastInDim S1x16x1x1 ![] bcast_S_S1x16x1x1 : (⟨S_, .i32⟩ : BufTy).Contents (Elt F) → (⟨S1x16x1x1, .i32⟩ : BufTy).Contents (Elt F)),
    binary main_v4 main_v47 main_v48 (addi : (⟨S1x16x1x1, .i32⟩ : BufTy).Contents (Elt F) → (⟨S1x16x1x1, .i32⟩ : BufTy).Contents (Elt F) → (⟨S1x16x1x1, .i32⟩ : BufTy).Contents (Elt F)),
    ternary main_v46 main_v48 main_v4 main_v49 (select : (⟨S1x16x1x1, .i1⟩ : BufTy).Contents (Elt F) → (⟨S1x16x1x1, .i32⟩ : BufTy).Contents (Elt F) → (⟨S1x16x1x1, .i32⟩ : BufTy).Contents (Elt F) → (⟨S1x16x1x1, .i32⟩ : BufTy).Contents (Elt F)),
    nullary main_c_4 (constantI S_ 32 0#32),
    unary main_c_4 main_v50 (broadcastInDim S12x16x10x500 ![] bcast_S_S12x16x10x500 : (⟨S_, .i32⟩ : BufTy).Contents (Elt F) → (⟨S12x16x10x500, .i32⟩ : BufTy).Contents (Elt F)),
    binary main_v39 main_v50 main_v51 (cmpi .slt : (⟨S12x16x10x500, .i32⟩ : BufTy).Contents (Elt F) → (⟨S12x16x10x500, .i32⟩ : BufTy).Contents (Elt F) → (⟨S12x16x10x500, .i1⟩ : BufTy).Contents (Elt F)),
    nullary main_c_5 (constantI S_ 32 500#32),
    unary main_c_5 main_v52 (broadcastInDim S12x16x10x500 ![] bcast_S_S12x16x10x500 : (⟨S_, .i32⟩ : BufTy).Contents (Elt F) → (⟨S12x16x10x500, .i32⟩ : BufTy).Contents (Elt F)),
    binary main_v39 main_v52 main_v53 (addi : (⟨S12x16x10x500, .i32⟩ : BufTy).Contents (Elt F) → (⟨S12x16x10x500, .i32⟩ : BufTy).Contents (Elt F) → (⟨S12x16x10x500, .i32⟩ : BufTy).Contents (Elt F)),
    ternary main_v51 main_v53 main_v39 main_v54 (select : (⟨S12x16x10x500, .i1⟩ : BufTy).Contents (Elt F) → (⟨S12x16x10x500, .i32⟩ : BufTy).Contents (Elt F) → (⟨S12x16x10x500, .i32⟩ : BufTy).Contents (Elt F) → (⟨S12x16x10x500, .i32⟩ : BufTy).Contents (Elt F)),
    unary main_v44 main_v55 (broadcastInDim S12x16x10x500 ![0, 1, 2, 3] bcast_S12x1x1x1_S12x16x10x500_0_1_2_3 : (⟨S12x1x1x1, .i32⟩ : BufTy).Contents (Elt F) → (⟨S12x16x10x500, .i32⟩ : BufTy).Contents (Elt F)),
    unary main_v49 main_v56 (broadcastInDim S12x16x10x500 ![0, 1, 2, 3] bcast_S1x16x1x1_S12x16x10x500_0_1_2_3 : (⟨S1x16x1x1, .i32⟩ : BufTy).Contents (Elt F) → (⟨S12x16x10x500, .i32⟩ : BufTy).Contents (Elt F)),
    unary main_v55 main_v57 (broadcastInDim S12x16x10x500x1 ![0, 1, 2, 3] bcast_S12x16x10x500_S12x16x10x500x1_0_1_2_3 : (⟨S12x16x10x500, .i32⟩ : BufTy).Contents (Elt F) → (⟨S12x16x10x500x1, .i32⟩ : BufTy).Contents (Elt F)),
    unary main_v56 main_v58 (broadcastInDim S12x16x10x500x1 ![0, 1, 2, 3] bcast_S12x16x10x500_S12x16x10x500x1_0_1_2_3 : (⟨S12x16x10x500, .i32⟩ : BufTy).Contents (Elt F) → (⟨S12x16x10x500x1, .i32⟩ : BufTy).Contents (Elt F)),
    unary main_v54 main_v59 (broadcastInDim S12x16x10x500x1 ![0, 1, 2, 3] bcast_S12x16x10x500_S12x16x10x500x1_0_1_2_3 : (⟨S12x16x10x500, .i32⟩ : BufTy).Contents (Elt F) → (⟨S12x16x10x500x1, .i32⟩ : BufTy).Contents (Elt F)),
    nary ![main_v57, main_v58, main_v59] main_v60 (fun u => catIndex (u 0) (u 1) (u 2)),
    binary main_v29 main_v60 main_v61 ((fun x i => Host.gather gather_S12x16x500x256_S12x16x10x500x3_S12x16x10x500x256_4_012_n_n_012_4_111256 x i) : (⟨S12x16x500x256, .f32⟩ : BufTy).Contents (Elt F) → (⟨S12x16x10x500x3, .i32⟩ : BufTy).Contents (Elt F) → (⟨S12x16x10x500x256, .f32⟩ : BufTy).Contents (Elt F)) ]

theorem opsB_sub : (opsB : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., binary_bufs_sub ..⟩

/-- The operations that compute the scores. -/
abbrev opsC : List (HloOp τ sig (Elt F)) :=
  [ unary main_v29 main_v62 (broadcastInDim S12x16x1x500x256 ![0, 1, 3, 4] bcast_S12x16x500x256_S12x16x1x500x256_0_1_3_4 : (⟨S12x16x500x256, .f32⟩ : BufTy).Contents (Elt F) → (⟨S12x16x1x500x256, .f32⟩ : BufTy).Contents (Elt F)),
    binary main_v62 main_v61 main_v63 (catNeg (F := F)),
    unary main_v34 main_v64 (broadcastInDim S12x16x1x500x256 ![0, 1, 3, 4] bcast_S12x16x500x256_S12x16x1x500x256_0_1_3_4 : (⟨S12x16x500x256, .f32⟩ : BufTy).Contents (Elt F) → (⟨S12x16x1x500x256, .f32⟩ : BufTy).Contents (Elt F)),
    unary main_v64 main_v65 (broadcastInDim S12x16x11x500x256 ![0, 1, 2, 3, 4] bcast_S12x16x1x500x256_S12x16x11x500x256_0_1_2_3_4 : (⟨S12x16x1x500x256, .f32⟩ : BufTy).Contents (Elt F) → (⟨S12x16x11x500x256, .f32⟩ : BufTy).Contents (Elt F)),
    binary main_v63 main_v65 main_v66 (mulf : (⟨S12x16x11x500x256, .f32⟩ : BufTy).Contents (Elt F) → (⟨S12x16x11x500x256, .f32⟩ : BufTy).Contents (Elt F) → (⟨S12x16x11x500x256, .f32⟩ : BufTy).Contents (Elt F)),
    nullary main_cst (constant S_ .f32 0x00000000#32),
    binary main_v66 main_cst main_v67 ((fun x v => Host.reduceAdd x v reducesTo_S12x16x11x500x256_S12x16x11x500_d4 h_S_) : (⟨S12x16x11x500x256, .f32⟩ : BufTy).Contents (Elt F) → (⟨S_, .f32⟩ : BufTy).Contents (Elt F) → (⟨S12x16x11x500, .f32⟩ : BufTy).Contents (Elt F)),
    nullary main_cst_6 (constant S_ .f32 0x41800000#32),
    unary main_cst_6 main_v68 (broadcastInDim S12x16x11x500 ![] bcast_S_S12x16x11x500 : (⟨S_, .f32⟩ : BufTy).Contents (Elt F) → (⟨S12x16x11x500, .f32⟩ : BufTy).Contents (Elt F)),
    binary main_v67 main_v68 main_v69 (Host.divf : (⟨S12x16x11x500, .f32⟩ : BufTy).Contents (Elt F) → (⟨S12x16x11x500, .f32⟩ : BufTy).Contents (Elt F) → (⟨S12x16x11x500, .f32⟩ : BufTy).Contents (Elt F)) ]

theorem opsC_sub : (opsC : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub ..⟩

/-- The operations that compute the loss. -/
abbrev opsD : List (HloOp τ sig (Elt F)) :=
  [ nullary main_cst_7 (constant S_ .f32 0xFF800000#32),
    binary main_v69 main_cst_7 main_v70 ((fun x v => Host.reduce FloatOps.maximumf x v reducesTo_S12x16x11x500_S12x16x500_d2 h_S_) : (⟨S12x16x11x500, .f32⟩ : BufTy).Contents (Elt F) → (⟨S_, .f32⟩ : BufTy).Contents (Elt F) → (⟨S12x16x500, .f32⟩ : BufTy).Contents (Elt F)),
    unary main_v70 main_v71 (broadcastInDim S12x16x1x500 ![0, 1, 3] bcast_S12x16x500_S12x16x1x500_0_1_3 : (⟨S12x16x500, .f32⟩ : BufTy).Contents (Elt F) → (⟨S12x16x1x500, .f32⟩ : BufTy).Contents (Elt F)),
    unary main_v71 main_v72 (broadcastInDim S12x16x11x500 ![0, 1, 2, 3] bcast_S12x16x1x500_S12x16x11x500_0_1_2_3 : (⟨S12x16x1x500, .f32⟩ : BufTy).Contents (Elt F) → (⟨S12x16x11x500, .f32⟩ : BufTy).Contents (Elt F)),
    binary main_v69 main_v72 main_v73 (subf : (⟨S12x16x11x500, .f32⟩ : BufTy).Contents (Elt F) → (⟨S12x16x11x500, .f32⟩ : BufTy).Contents (Elt F) → (⟨S12x16x11x500, .f32⟩ : BufTy).Contents (Elt F)),
    unary main_v73 main_v74 (Host.exp : (⟨S12x16x11x500, .f32⟩ : BufTy).Contents (Elt F) → (⟨S12x16x11x500, .f32⟩ : BufTy).Contents (Elt F)),
    nullary main_cst_8 (constant S_ .f32 0x00000000#32),
    binary main_v74 main_cst_8 main_v75 ((fun x v => Host.reduceAdd x v reducesTo_S12x16x11x500_S12x16x500_d2 h_S_) : (⟨S12x16x11x500, .f32⟩ : BufTy).Contents (Elt F) → (⟨S_, .f32⟩ : BufTy).Contents (Elt F) → (⟨S12x16x500, .f32⟩ : BufTy).Contents (Elt F)),
    unary main_v75 main_v76 (Host.log : (⟨S12x16x500, .f32⟩ : BufTy).Contents (Elt F) → (⟨S12x16x500, .f32⟩ : BufTy).Contents (Elt F)),
    binary main_v76 main_v70 main_v77 (addf : (⟨S12x16x500, .f32⟩ : BufTy).Contents (Elt F) → (⟨S12x16x500, .f32⟩ : BufTy).Contents (Elt F) → (⟨S12x16x500, .f32⟩ : BufTy).Contents (Elt F)),
    unary main_v69 main_v78 ((extractStridedSlice S12x16x1x500 ![0, 0, 0, 0] · slices_S12x16x11x500_S12x16x1x500_0_0_0_0) : (⟨S12x16x11x500, .f32⟩ : BufTy).Contents (Elt F) → (⟨S12x16x1x500, .f32⟩ : BufTy).Contents (Elt F)),
    reshape main_v78 main_v79 (rfl : (.f32 : EltTy) = .f32) shapeCasts_S12x16x1x500_S12x16x500,
    binary main_v77 main_v79 main_v80 (subf : (⟨S12x16x500, .f32⟩ : BufTy).Contents (Elt F) → (⟨S12x16x500, .f32⟩ : BufTy).Contents (Elt F) → (⟨S12x16x500, .f32⟩ : BufTy).Contents (Elt F)),
    nullary main_cst_9 (constant S_ .f32 0x00000000#32),
    binary main_v80 main_cst_9 main_v81 ((fun x v => Host.reduceAdd x v reducesTo_S12x16x500_S12_d1_2 h_S_) : (⟨S12x16x500, .f32⟩ : BufTy).Contents (Elt F) → (⟨S_, .f32⟩ : BufTy).Contents (Elt F) → (⟨S12, .f32⟩ : BufTy).Contents (Elt F)),
    nullary main_cst_10 (constant S_ .f32 0x45FA0000#32),
    unary main_cst_10 main_v82 (broadcastInDim S12 ![] bcast_S_S12 : (⟨S_, .f32⟩ : BufTy).Contents (Elt F) → (⟨S12, .f32⟩ : BufTy).Contents (Elt F)),
    binary main_v81 main_v82 main_v83 (Host.divf : (⟨S12, .f32⟩ : BufTy).Contents (Elt F) → (⟨S12, .f32⟩ : BufTy).Contents (Elt F) → (⟨S12, .f32⟩ : BufTy).Contents (Elt F)),
    nullary main_cst_11 (constant S_ .f32 0x00000000#32),
    binary main_v83 main_cst_11 main_v84 ((fun x v => Host.reduceAdd x v reducesTo_S12_S_d0 h_S_) : (⟨S12, .f32⟩ : BufTy).Contents (Elt F) → (⟨S_, .f32⟩ : BufTy).Contents (Elt F) → (⟨S_, .f32⟩ : BufTy).Contents (Elt F)),
    nullary main_cst_12 (constant S_ .f32 0x41400000#32),
    binary main_v84 main_cst_12 main_v85 (Host.divf : (⟨S_, .f32⟩ : BufTy).Contents (Elt F) → (⟨S_, .f32⟩ : BufTy).Contents (Elt F) → (⟨S_, .f32⟩ : BufTy).Contents (Elt F)) ]

theorem opsD_sub : (opsD : List (HloOp τ sig (Elt F))).Forall fun op => op.bufs ⊆ tcRefs τ sig :=
  ⟨nullary_bufs_sub .., binary_bufs_sub .., unary_bufs_sub .., unary_bufs_sub .., binary_bufs_sub .., unary_bufs_sub .., nullary_bufs_sub .., binary_bufs_sub .., unary_bufs_sub .., binary_bufs_sub .., unary_bufs_sub .., reshape_bufs_sub .., binary_bufs_sub .., nullary_bufs_sub .., binary_bufs_sub .., nullary_bufs_sub .., unary_bufs_sub .., binary_bufs_sub .., nullary_bufs_sub .., binary_bufs_sub .., nullary_bufs_sub .., binary_bufs_sub ..⟩

/-- The operations that compute the accuracies. -/
abbrev opsE : List (HloOp τ sig (Elt F)) :=
  [ TRef.nullary (TRef.of (T := ⟨S12x16x11x500, .i32⟩) main_call1_v0) (iotaInDim S12x16x11x500 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S12x16x11x500, .f32⟩) main_v69) (TRef.of (T := ⟨S12x16x11x500, .i32⟩) main_call1_v0) (TRef.of (T := ⟨S_, .f32⟩) main_call1_cst) (TRef.of (T := ⟨S_, .i32⟩) main_call1_c) (TRef.of (T := ⟨S12x16x500, .f32⟩) main_call1_v1_0) (fun x y u v j => (Host.argReduce reducer_argmax_f32_i32 x y u v reducesTo_S12x16x11x500_S12x16x500_d2 h_S_ j).1),
    TRef.quaternary (TRef.of (T := ⟨S12x16x11x500, .f32⟩) main_v69) (TRef.of (T := ⟨S12x16x11x500, .i32⟩) main_call1_v0) (TRef.of (T := ⟨S_, .f32⟩) main_call1_cst) (TRef.of (T := ⟨S_, .i32⟩) main_call1_c) (TRef.of (T := ⟨S12x16x500, .i32⟩) main_v86) (fun x y u v j => (Host.argReduce reducer_argmax_f32_i32 x y u v reducesTo_S12x16x11x500_S12x16x500_d2 h_S_ j).2),
    nullary main_c_13 (constantI S_ 32 0#32),
    unary main_c_13 main_v87 (broadcastInDim S12x16x500 ![] bcast_S_S12x16x500 : (⟨S_, .i32⟩ : BufTy).Contents (Elt F) → (⟨S12x16x500, .i32⟩ : BufTy).Contents (Elt F)),
    binary main_v86 main_v87 main_v88 (cmpi .eq : (⟨S12x16x500, .i32⟩ : BufTy).Contents (Elt F) → (⟨S12x16x500, .i32⟩ : BufTy).Contents (Elt F) → (⟨S12x16x500, .i1⟩ : BufTy).Contents (Elt F)),
    unary main_v88 main_v89 (uitofp .f32 : (⟨S12x16x500, .i1⟩ : BufTy).Contents (Elt F) → (⟨S12x16x500, .f32⟩ : BufTy).Contents (Elt F)),
    nullary main_cst_14 (constant S_ .f32 0x00000000#32),
    binary main_v89 main_cst_14 main_v90 ((fun x v => Host.reduceAdd x v reducesTo_S12x16x500_S12_d1_2 h_S_) : (⟨S12x16x500, .f32⟩ : BufTy).Contents (Elt F) → (⟨S_, .f32⟩ : BufTy).Contents (Elt F) → (⟨S12, .f32⟩ : BufTy).Contents (Elt F)),
    nullary main_cst_15 (constant S_ .f32 0x45FA0000#32),
    unary main_cst_15 main_v91 (broadcastInDim S12 ![] bcast_S_S12 : (⟨S_, .f32⟩ : BufTy).Contents (Elt F) → (⟨S12, .f32⟩ : BufTy).Contents (Elt F)),
    binary main_v90 main_v91 main_v92 (Host.divf : (⟨S12, .f32⟩ : BufTy).Contents (Elt F) → (⟨S12, .f32⟩ : BufTy).Contents (Elt F) → (⟨S12, .f32⟩ : BufTy).Contents (Elt F)) ]

theorem opsE_sub : (opsE : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub .., unary_bufs_sub .., nullary_bufs_sub .., binary_bufs_sub .., nullary_bufs_sub .., unary_bufs_sub .., binary_bufs_sub ..⟩

set_option maxRecDepth 8192 in
set_option maxHeartbeats 4000000 in
/-- The reference runs its five stages one after the other. -/
theorem main_eq (c : Dev nD) : main (F := F) c = seq (opsA ++ (opsB ++ (opsC ++ (opsD ++ opsE)))) := rfl

theorem scopedRefs_eq : (Finset.univ.filter fun b : Ref sig .tc => b.isScoped) = ∅ := by decide

theorem scopedSems_eq : (Finset.univ.filter fun sm : SemLoc sig => sm.isScoped .tc) = ∅ := by decide

theorem ops_sub : (opsA ++ (opsB ++ (opsC ++ (opsD ++ opsE))) : List (HloOp τ sig (Elt F))).Forall fun op => op.bufs ⊆ tcRefs τ sig := by
  simp only [List.forall_append]
  exact ⟨opsA_sub, opsB_sub, opsC_sub, opsD_sub, opsE_sub⟩

end Cert.ReferenceIdeal.Ref

end
-- ==== Proof.RefRun.lean ====
/- What the reference leaves in its results. -/
module

public import proofs.«01_k».proof.Proof.Gen.ReferenceIdeal
public import Idealize.ShloMosaic.Lib.StableHlo.Run
public import Idealize.ShloMosaic.Lib.Claim
public import proofs.«01_k».proof.Proof.RefOps

@[expose] public section

noncomputable section

namespace Cert.ReferenceIdeal.Ref

open Cert.ReferenceIdeal Cert.ReferenceIdeal.Gen Idealize.ShloMosaic Idealize.ShloMosaic.TcCoe Idealize.SL.Sem Idealize.ShloMosaic.StableHlo

variable {F : FTy → Type} [FloatOps F]

/-- Operations run one after the other: the later ones on what the earlier ones leave. -/
theorem after_append' (l₁ l₂ : List (HloOp τ sig (Elt F))) (V : Valuation τ sig (Elt F)) :
    after (l₁ ++ l₂) V = after l₂ (after l₁ V) := by
  induction l₁ generalizing V with
  | nil => rfl
  | cons a l ih => simp only [List.cons_append, after_cons, ih]

set_option maxRecDepth 8192
set_option maxHeartbeats 4000000

/-- The first stage leaves the shifted latents. -/
theorem stageA_v29 (V : Valuation τ sig (Elt F)) :
    after opsA V (Proc.devRef .tc main_v29) = shifted (V (Proc.devRef .tc main_arg0)) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

/-- The first stage leaves the projected context. -/
theorem stageA_v34 (V : Valuation τ sig (Elt F)) :
    after opsA V (Proc.devRef .tc main_v34) = projected (V (Proc.devRef .tc main_arg1)) (V (Proc.devRef .tc main_arg2)) (V (Proc.devRef .tc main_arg3)) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

/-- The first stage leaves the step numbers. -/
theorem stageA_v2 (V : Valuation τ sig (Elt F)) :
    after opsA V (Proc.devRef .tc main_v2) = stepNo := by
  simp only [opsA, TRef.binary, TRef.nullary, TRef.ternary, TRef.quaternary, TRef.unary, TRef.toBuf, TRef.ofBuf, cast_eq]; after_results_simp <;> (try dsimp only [Matrix.cons_val]) <;> (try after_results_simp) <;> rfl

/-- The first stage leaves the sequence numbers. -/
theorem stageA_v4 (V : Valuation τ sig (Elt F)) :
    after opsA V (Proc.devRef .tc main_v4) = seqNo := by
  simp only [opsA, TRef.binary, TRef.nullary, TRef.ternary, TRef.quaternary, TRef.unary, TRef.toBuf, TRef.ofBuf, cast_eq]; after_results_simp <;> (try dsimp only [Matrix.cons_val]) <;> (try after_results_simp) <;> rfl

/-- The second stage leaves the drawn latents. -/
theorem stageB_v61 (V : Valuation τ sig (Elt F)) :
    after opsB V (Proc.devRef .tc main_v61) = negatives (V (Proc.devRef .tc main_v29)) (V (Proc.devRef .tc main_v2)) (V (Proc.devRef .tc main_v4)) (V (Proc.devRef .tc main_arg4)) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

/-- The third stage leaves the scores. -/
theorem stageC_v69 (V : Valuation τ sig (Elt F)) :
    after opsC V (Proc.devRef .tc main_v69) = scored (V (Proc.devRef .tc main_v29)) (V (Proc.devRef .tc main_v34)) (V (Proc.devRef .tc main_v61)) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

/-- The fourth stage leaves the total loss. -/
theorem stageD_v85 (V : Valuation τ sig (Elt F)) :
    after opsD V (Proc.devRef .tc main_v85) = totalLoss (V (Proc.devRef .tc main_v69)) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

/-- The fifth stage leaves the accuracies. -/
theorem stageE_v92 (V : Valuation τ sig (Elt F)) :
    after opsE V (Proc.devRef .tc main_v92) = stepMean (correct (V (Proc.devRef .tc main_v69))) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepA_arg0 (V : Valuation τ sig (Elt F)) : after opsA V (Proc.devRef .tc main_arg0) = V (Proc.devRef .tc main_arg0) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

theorem keepA_arg1 (V : Valuation τ sig (Elt F)) : after opsA V (Proc.devRef .tc main_arg1) = V (Proc.devRef .tc main_arg1) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

theorem keepA_arg2 (V : Valuation τ sig (Elt F)) : after opsA V (Proc.devRef .tc main_arg2) = V (Proc.devRef .tc main_arg2) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

theorem keepA_arg3 (V : Valuation τ sig (Elt F)) : after opsA V (Proc.devRef .tc main_arg3) = V (Proc.devRef .tc main_arg3) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

theorem keepA_arg4 (V : Valuation τ sig (Elt F)) : after opsA V (Proc.devRef .tc main_arg4) = V (Proc.devRef .tc main_arg4) := by
  simp only [opsA, TRef.binary, TRef.nullary, TRef.ternary, TRef.quaternary, TRef.unary, TRef.toBuf, TRef.ofBuf, cast_eq]; after_results_simp <;> (try dsimp only [Matrix.cons_val]) <;> (try after_results_simp) <;> rfl

theorem keepB_arg0 (V : Valuation τ sig (Elt F)) : after opsB V (Proc.devRef .tc main_arg0) = V (Proc.devRef .tc main_arg0) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_arg1 (V : Valuation τ sig (Elt F)) : after opsB V (Proc.devRef .tc main_arg1) = V (Proc.devRef .tc main_arg1) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_arg2 (V : Valuation τ sig (Elt F)) : after opsB V (Proc.devRef .tc main_arg2) = V (Proc.devRef .tc main_arg2) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_arg3 (V : Valuation τ sig (Elt F)) : after opsB V (Proc.devRef .tc main_arg3) = V (Proc.devRef .tc main_arg3) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_arg4 (V : Valuation τ sig (Elt F)) : after opsB V (Proc.devRef .tc main_arg4) = V (Proc.devRef .tc main_arg4) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_v29 (V : Valuation τ sig (Elt F)) : after opsB V (Proc.devRef .tc main_v29) = V (Proc.devRef .tc main_v29) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepB_v34 (V : Valuation τ sig (Elt F)) : after opsB V (Proc.devRef .tc main_v34) = V (Proc.devRef .tc main_v34) := by
  simp only [opsB, TRef.binary, TRef.nullary, TRef.ternary, TRef.quaternary, TRef.unary, TRef.toBuf, TRef.ofBuf, cast_eq]; after_results_simp <;> (try dsimp only [Matrix.cons_val]) <;> (try after_results_simp) <;> rfl

theorem keepC_arg0 (V : Valuation τ sig (Elt F)) : after opsC V (Proc.devRef .tc main_arg0) = V (Proc.devRef .tc main_arg0) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

theorem keepC_arg1 (V : Valuation τ sig (Elt F)) : after opsC V (Proc.devRef .tc main_arg1) = V (Proc.devRef .tc main_arg1) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

theorem keepC_arg2 (V : Valuation τ sig (Elt F)) : after opsC V (Proc.devRef .tc main_arg2) = V (Proc.devRef .tc main_arg2) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

theorem keepC_arg3 (V : Valuation τ sig (Elt F)) : after opsC V (Proc.devRef .tc main_arg3) = V (Proc.devRef .tc main_arg3) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

theorem keepC_arg4 (V : Valuation τ sig (Elt F)) : after opsC V (Proc.devRef .tc main_arg4) = V (Proc.devRef .tc main_arg4) := by
  simp only [opsC, TRef.binary, TRef.nullary, TRef.ternary, TRef.quaternary, TRef.unary, TRef.toBuf, TRef.ofBuf, cast_eq]; after_results_simp <;> (try dsimp only [Matrix.cons_val]) <;> (try after_results_simp) <;> rfl

theorem keepD_arg0 (V : Valuation τ sig (Elt F)) : after opsD V (Proc.devRef .tc main_arg0) = V (Proc.devRef .tc main_arg0) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepD_arg1 (V : Valuation τ sig (Elt F)) : after opsD V (Proc.devRef .tc main_arg1) = V (Proc.devRef .tc main_arg1) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepD_arg2 (V : Valuation τ sig (Elt F)) : after opsD V (Proc.devRef .tc main_arg2) = V (Proc.devRef .tc main_arg2) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepD_arg3 (V : Valuation τ sig (Elt F)) : after opsD V (Proc.devRef .tc main_arg3) = V (Proc.devRef .tc main_arg3) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepD_arg4 (V : Valuation τ sig (Elt F)) : after opsD V (Proc.devRef .tc main_arg4) = V (Proc.devRef .tc main_arg4) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepD_v69 (V : Valuation τ sig (Elt F)) : after opsD V (Proc.devRef .tc main_v69) = V (Proc.devRef .tc main_v69) := by
  simp only [opsD, TRef.binary, TRef.nullary, TRef.ternary, TRef.quaternary, TRef.unary, TRef.toBuf, TRef.ofBuf, cast_eq]; after_results_simp <;> (try dsimp only [Matrix.cons_val]) <;> (try after_results_simp) <;> rfl

theorem keepE_arg0 (V : Valuation τ sig (Elt F)) : after opsE V (Proc.devRef .tc main_arg0) = V (Proc.devRef .tc main_arg0) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepE_arg1 (V : Valuation τ sig (Elt F)) : after opsE V (Proc.devRef .tc main_arg1) = V (Proc.devRef .tc main_arg1) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepE_arg2 (V : Valuation τ sig (Elt F)) : after opsE V (Proc.devRef .tc main_arg2) = V (Proc.devRef .tc main_arg2) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepE_arg3 (V : Valuation τ sig (Elt F)) : after opsE V (Proc.devRef .tc main_arg3) = V (Proc.devRef .tc main_arg3) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepE_arg4 (V : Valuation τ sig (Elt F)) : after opsE V (Proc.devRef .tc main_arg4) = V (Proc.devRef .tc main_arg4) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

theorem keepE_v85 (V : Valuation τ sig (Elt F)) : after opsE V (Proc.devRef .tc main_v85) = V (Proc.devRef .tc main_v85) := by
  simp only [opsE, TRef.binary, TRef.nullary, TRef.ternary, TRef.quaternary, TRef.unary, TRef.toBuf, TRef.ofBuf, cast_eq]; after_results_simp <;> (try dsimp only [Matrix.cons_val]) <;> (try after_results_simp) <;> rfl

/-- The reference's scores, from its arguments. -/
def refScores (x0 : FVec F S16x512x256 .f32) (x1 : FVec F S16x512x2048 .f32) (x2 : FVec F S12x256x2048 .f32) (x3 : FVec F S12x256 .f32)
    (x4 : IVec S12x16x10x500 32) : FVec F S12x16x11x500 .f32 :=
  scored (shifted x0) (projected x1 x2 x3) (negatives (shifted x0) stepNo seqNo x4)

/-- The whole reference leaves the total loss. -/
theorem all_v85 (V : Valuation τ sig (Elt F)) : after (opsA ++ (opsB ++ (opsC ++ (opsD ++ opsE)))) V (Proc.devRef .tc main_v85) =
    totalLoss (refScores (V (Proc.devRef .tc main_arg0)) (V (Proc.devRef .tc main_arg1)) (V (Proc.devRef .tc main_arg2)) (V (Proc.devRef .tc main_arg3)) (V (Proc.devRef .tc main_arg4))) := by
  rw [after_append', after_append', after_append', after_append', keepE_v85, stageD_v85, stageC_v69, keepB_v29, keepB_v34, stageB_v61, stageA_v29, stageA_v34, stageA_v2, stageA_v4, keepA_arg4, refScores]

/-- The whole reference leaves the accuracies. -/
theorem all_v92 (V : Valuation τ sig (Elt F)) : after (opsA ++ (opsB ++ (opsC ++ (opsD ++ opsE)))) V (Proc.devRef .tc main_v92) =
    stepMean (correct (refScores (V (Proc.devRef .tc main_arg0)) (V (Proc.devRef .tc main_arg1)) (V (Proc.devRef .tc main_arg2)) (V (Proc.devRef .tc main_arg3)) (V (Proc.devRef .tc main_arg4)))) := by
  rw [after_append', after_append', after_append', after_append', stageE_v92, keepD_v69, stageC_v69, keepB_v29, keepB_v34, stageB_v61, stageA_v29, stageA_v34, stageA_v2, stageA_v4, keepA_arg4, refScores]

theorem all_arg0 (V : Valuation τ sig (Elt F)) : after (opsA ++ (opsB ++ (opsC ++ (opsD ++ opsE)))) V (Proc.devRef .tc main_arg0) = (V (Proc.devRef .tc main_arg0)) := by
  rw [after_append', after_append', after_append', after_append', keepE_arg0, keepD_arg0, keepC_arg0, keepB_arg0, keepA_arg0]

theorem all_arg1 (V : Valuation τ sig (Elt F)) : after (opsA ++ (opsB ++ (opsC ++ (opsD ++ opsE)))) V (Proc.devRef .tc main_arg1) = (V (Proc.devRef .tc main_arg1)) := by
  rw [after_append', after_append', after_append', after_append', keepE_arg1, keepD_arg1, keepC_arg1, keepB_arg1, keepA_arg1]

theorem all_arg2 (V : Valuation τ sig (Elt F)) : after (opsA ++ (opsB ++ (opsC ++ (opsD ++ opsE)))) V (Proc.devRef .tc main_arg2) = (V (Proc.devRef .tc main_arg2)) := by
  rw [after_append', after_append', after_append', after_append', keepE_arg2, keepD_arg2, keepC_arg2, keepB_arg2, keepA_arg2]

theorem all_arg3 (V : Valuation τ sig (Elt F)) : after (opsA ++ (opsB ++ (opsC ++ (opsD ++ opsE)))) V (Proc.devRef .tc main_arg3) = (V (Proc.devRef .tc main_arg3)) := by
  rw [after_append', after_append', after_append', after_append', keepE_arg3, keepD_arg3, keepC_arg3, keepB_arg3, keepA_arg3]

theorem all_arg4 (V : Valuation τ sig (Elt F)) : after (opsA ++ (opsB ++ (opsC ++ (opsD ++ opsE)))) V (Proc.devRef .tc main_arg4) = (V (Proc.devRef .tc main_arg4)) := by
  rw [after_append', after_append', after_append', after_append', keepE_arg4, keepD_arg4, keepC_arg4, keepB_arg4, keepA_arg4]

/-- From any memory with zero counters, every weakly fair execution of the reference ends with its results at the loss and
    the accuracies of its arguments, and with its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = totalLoss (refScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v92) = stepMean (correct (refScores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v85).trans (all_v85 _), (h c main_v92).trans (all_v92 _),
      (h c main_arg0).trans (all_arg0 _), (h c main_arg1).trans (all_arg1 _), (h c main_arg2).trans (all_arg2 _), (h c main_arg3).trans (all_arg3 _), (h c main_arg4).trans (all_arg4 _)⟩)
    (run_seq scopedRefs_eq scopedSems_eq defs main (fun _ => (opsA ++ (opsB ++ (opsC ++ (opsD ++ opsE))))) main_eq (fun _ => ops_sub) m ρ)

end Cert.ReferenceIdeal.Ref

end
-- ==== Proof.Spec.lean ====
module

public import Idealize.ShloMosaic.Lib.Pointwise

/-
  What the two programs compute, as plain functions of coordinates over the extended reals: the projected context, the
  frame of each candidate, the eleven scores, the cross-entropy and the hit of one frame, and the two results.
-/

@[expose] public section

noncomputable section

namespace Cert.Contrast

open Idealize.ShloMosaic

/-- The divisor of the remainder as it is printed: 500, or one in the place of zero. -/
def modulus : BitVec 32 := Scalar.select (IntOp.cmpi .eq 500#32 0#32) 1#32 500#32

/-- The truncated remainder of a draw moved by its frame. -/
def rest (d : BitVec 32) (t : ℕ) : BitVec 32 := IntOp.remsi .host (IntOp.addi d (BitVec.ofNat 32 t)) modulus

/-- The remainder of a moved draw with the divisor's sign: the frame the draw stands for. -/
def frameWord (d : BitVec 32) (t : ℕ) : BitVec 32 :=
  Scalar.select (IntOp.andi (IntOp.cmpi .ne (IntOp.cmpi .slt (rest d t) 0#32) (IntOp.cmpi .slt modulus 0#32))
      (IntOp.cmpi .ne (rest d t) 0#32))
    (IntOp.addi (rest d t) modulus) (rest d t)

/-- The divisor is 500. -/
theorem modulus_eq : modulus = 500#32 := by decide

/-- The truncated remainder lies between -500 and 500. -/
theorem rest_bound (d : BitVec 32) (t : ℕ) : -500 < (rest d t).toInt ∧ (rest d t).toInt < 500 := by
  have h : rest d t = (IntOp.addi d (BitVec.ofNat 32 t)).srem 500#32 := by
    unfold rest IntOp.remsi
    rw [modulus_eq, if_neg]
    rintro (h | ⟨_, h⟩) <;> exact absurd h (by decide)
  rw [h, BitVec.toInt_srem, show (500#32).toInt = 500 by decide]
  generalize (IntOp.addi d (BitVec.ofNat 32 t)).toInt = a
  have h1 := Int.tmod_lt_of_pos a (show (0 : ℤ) < 500 by norm_num)
  have h2 := Int.tmod_lt_of_pos (-a) (show (0 : ℤ) < 500 by norm_num)
  rw [Int.neg_tmod] at h2
  omega

/-- A drawn frame is below 500. -/
theorem frameWord_lt (d : BitVec 32) (t : ℕ) : (frameWord d t).toNat < 500 := by
  obtain ⟨h1, h2⟩ := rest_bound d t
  unfold frameWord
  rw [modulus_eq]
  generalize rest d t = r at h1 h2
  have hr := r.isLt
  rw [BitVec.toInt_eq_toNat_cond] at h1 h2
  have hlt : r.slt 0#32 = decide (2 ^ 31 ≤ r.toNat) := by
    rw [BitVec.slt, BitVec.toInt_eq_toNat_cond]
    simp only [BitVec.toInt_zero, decide_eq_decide]
    split <;> omega
  by_cases hn : 2 ^ 31 ≤ r.toNat
  · have hz : r ≠ 0#32 := by rintro rfl; simp at hn
    have hs : Scalar.select (IntOp.andi (IntOp.cmpi .ne (IntOp.cmpi .slt r 0#32) (IntOp.cmpi .slt 500#32 0#32))
        (IntOp.cmpi .ne r 0#32)) (IntOp.addi r 500#32) r = IntOp.addi r 500#32 := by
      have e : IntOp.cmpi .slt r 0#32 = 1#1 := by
        show BitVec.ofBool (r.slt 0#32) = 1#1
        rw [hlt, decide_eq_true hn]; rfl
      have e' : IntOp.cmpi .ne r 0#32 = 1#1 := by
        show BitVec.ofBool (r != 0#32) = 1#1
        rw [bne_iff_ne.2 hz]; rfl
      rw [e, e']; rfl
    rw [hs, IntOp.addi, BitVec.toNat_add, show (500#32).toNat = 500 by decide]
    rw [if_neg (by omega)] at h1
    omega
  · have hs : Scalar.select (IntOp.andi (IntOp.cmpi .ne (IntOp.cmpi .slt r 0#32) (IntOp.cmpi .slt 500#32 0#32))
        (IntOp.cmpi .ne r 0#32)) (IntOp.addi r 500#32) r = r := by
      have e : IntOp.cmpi .slt r 0#32 = 0#1 := by
        show BitVec.ofBool (r.slt 0#32) = 0#1
        rw [hlt, decide_eq_false hn]; rfl
      rw [e]
      generalize IntOp.cmpi .ne r 0#32 = b
      have : IntOp.andi (IntOp.cmpi .ne 0#1 (IntOp.cmpi .slt 500#32 0#32)) b = 0#1 := by
        revert b; decide
      rw [this]; rfl
    rw [hs]
    rw [if_pos (by omega)] at h2
    omega

/-- The frame a draw stands for. -/
def frameOf (d : BitVec 32) (t : ℕ) : Fin 500 := ⟨(frameWord d t).toNat, frameWord_lt d t⟩

/-- The frames of the eleven candidates: the true one, then the ten drawn ones. -/
def cand (d : Fin 10 → BitVec 32) (t : Fin 500) : Fin 11 → Fin 500 := Fin.cons t fun j => frameOf (d j) t.val

/-- The latent row `k + 1` frames after frame `r`. -/
def later (k : Fin 12) (r : Fin 500) : Fin 512 := ⟨r.val + (k.val + 1), by omega⟩

/-- The eleven scores of one frame. -/
def score (z : Fin 512 → Fin 256 → EReal) (p : Fin 256 → EReal) (k : Fin 12) (r : Fin 11 → Fin 500) (j : Fin 11) : EReal :=
  (∑ e, z (later k (r j)) e * p e) * Ideal.ofBits .f32 0x3D800000#32

/-- The projection of one context row at a step. -/
def proj (c : Fin 2048 → EReal) (w : Fin 256 → Fin 2048 → EReal) (b : Fin 256 → EReal) (e : Fin 256) : EReal :=
  (∑ r, c r * w e r) + b e

/-- The largest of the eleven scores. -/
def peak (f : Fin 11 → EReal) : EReal := Finset.univ.fold max (Ideal.ofBits .f32 0xFF800000#32) f

/-- The cross-entropy of the true candidate. -/
def entropy (f : Fin 11 → EReal) : EReal := Ideal.log (∑ j, Ideal.exp (f j - peak f)) + peak f - f 0

/-- One where no drawn candidate scores higher than the true one, else zero. -/
def hit (f : Fin 11 → EReal) : EReal := open Classical in if ∀ j, f j ≤ f 0 then 1 else 0

/-- The scores of step `k`, sequence `q` and frame `t` from the five arguments. -/
def scoresAt (z : (⟨3, ![16, 512, 256]⟩ : Shape).Idx → EReal) (c : (⟨3, ![16, 512, 2048]⟩ : Shape).Idx → EReal)
    (w : (⟨3, ![12, 256, 2048]⟩ : Shape).Idx → EReal) (b : (⟨2, ![12, 256]⟩ : Shape).Idx → EReal)
    (d : (⟨4, ![12, 16, 10, 500]⟩ : Shape).Idx → BitVec 32) (k : Fin 12) (q : Fin 16) (t : Fin 500) : Fin 11 → EReal :=
  score (fun r e => z (ix3 q r e))
    (proj (fun r => c (ix3 q (t.castLE (by decide)) r)) (fun e r => w (ix3 k e r)) fun e => b (ix2 k e)) k
    (cand (fun j => d (ix4 k q j t)) t)

/-- The mean over sequences and frames of a number that stands at each step, sequence and frame. -/
def mean (g : Fin 12 → Fin 16 → Fin 500 → EReal) (k : Fin 12) : EReal :=
  Ideal.div (∑ q, ∑ t, g k q t) (Ideal.ofBits .f32 0x45FA0000#32)

/-- The mean over the twelve steps. -/
def overSteps (g : Fin 12 → EReal) : EReal := Ideal.div (∑ k, g k) (Ideal.ofBits .f32 0x41400000#32)

/-- The pattern of the divisor sixteen is the real sixteen. -/
theorem ofBits_sixteen : Ideal.ofBits .f32 0x41800000#32 = ((16 : ℝ) : EReal) := by
  simp only [Ideal.ofBits, Ideal.ieee]
  simp [← EReal.coe_mul]
  norm_num

/-- The pattern of the kernel's factor is the real one sixteenth. -/
theorem ofBits_sixteenth : Ideal.ofBits .f32 0x3D800000#32 = ((1 / 16 : ℝ) : EReal) := by
  simp only [Ideal.ofBits, Ideal.ieee]
  simp [← EReal.coe_mul]
  norm_num

/-- A division by sixteen is a multiplication by one sixteenth. -/
theorem div_sixteen (x : EReal) : Ideal.div x (Ideal.ofBits .f32 0x41800000#32) = x * Ideal.ofBits .f32 0x3D800000#32 := by
  rw [ofBits_sixteen, ofBits_sixteenth, Ideal.div_coe (by norm_num)]

/-- A sum that keeps the one summand whose number is a given word is that summand. -/
theorem sum_pick (s : Fin 512 → EReal) (w : BitVec 32) (r : Fin 512) (h : w.toNat = r.val) :
    ∑ x : Fin 512, Scalar.select (IntOp.cmpi .eq (BitVec.ofNat 32 x.val) w) (s x) 0 = s r := by
  have e : ∀ x : Fin 512, Scalar.select (IntOp.cmpi .eq (BitVec.ofNat 32 x.val) w) (s x) 0 = if x = r then s x else 0 := by
    intro x
    have : (BitVec.ofNat 32 x.val = w) ↔ x = r := by
      constructor
      · rintro rfl; apply Fin.ext; rw [← h, BitVec.toNat_ofNat]; have := x.isLt; omega
      · rintro rfl; apply BitVec.eq_of_toNat_eq; rw [h, BitVec.toNat_ofNat]; have := x.isLt; omega
    by_cases hx : x = r
    · rw [if_pos hx, this.2 hx]; simp [Scalar.select, IntOp.cmpi]
    · rw [if_neg hx]
      have hw := fun h => hx (this.1 h)
      have : (BitVec.ofNat 32 x.val == w) = false := by simpa using hw
      simp [Scalar.select, IntOp.cmpi, this]
  rw [Finset.sum_congr rfl fun x _ => e x, Finset.sum_ite_eq' Finset.univ r s, if_pos (Finset.mem_univ r)]

/-- The pattern of minus infinity is the least extended real. -/
theorem ofBits_bot : Ideal.ofBits .f32 0xFF800000#32 = ⊥ := by
  simp [Ideal.ofBits, Ideal.ieee]

end Cert.Contrast

end
-- ==== Proof.Argmax.lean ====
module

public import proofs.«01_k».proof.Proof.RefOps
public import proofs.«01_k».proof.Proof.Spec

/-
  The position of the largest of a list of numbered scores is zero exactly when no score is above the one numbered zero.
-/

@[expose] public section

noncomputable section

namespace Cert.ReferenceIdeal.Ref

open Cert.ReferenceIdeal Cert.ReferenceIdeal.Gen Idealize.ShloMosaic

/-- The reducer keeps the greater value and, between equal values, the smaller number. -/
theorem reducer_eq (a b : EReal × BitVec 32) :
    reducer_argmax_f32_i32 (F := Ideal) a b
      = if b.1 < a.1 then a else if a.1 = b.1 then (a.1, if a.2.slt b.2 then a.2 else b.2) else b := by
  obtain ⟨x, i⟩ := a
  obtain ⟨y, j⟩ := b
  have e1 : FloatOps.cmpf (F := Ideal) (φ := .f32) .ogt x y = BitVec.ofBool (decide (y < x)) := by
    simp [Ideal.cmpf_def, Ideal.cmp]
  have e2 : FloatOps.cmpf (F := Ideal) (φ := .f32) .une x x = 0#1 := by simp [Ideal.cmpf_def, Ideal.cmp]
  have e3 : FloatOps.cmpf (F := Ideal) (φ := .f32) .oeq x y = BitVec.ofBool (decide (x = y)) := by
    simp [Ideal.cmpf_def, Ideal.cmp]
  have e4 : IntOp.cmpi .slt i j = BitVec.ofBool (i.slt j) := rfl
  unfold reducer_argmax_f32_i32
  dsimp only
  rw [e1, e2, e3, e4]
  by_cases h1 : y < x
  · rw [if_pos h1, decide_eq_true h1]
    have h2 : x ≠ y := fun h => by simp [h] at h1
    rw [decide_eq_false h2]
    cases i.slt j <;> rfl
  · rw [if_neg h1, decide_eq_false h1]
    by_cases h2 : x = y
    · rw [if_pos h2, decide_eq_true h2]
      cases i.slt j
      · simp [Scalar.select, IntOp.ori, IntOp.andi, h2]
      · simp [Scalar.select, IntOp.ori, IntOp.andi, h2]
    · rw [if_neg h2, decide_eq_false h2]
      cases i.slt j <;> rfl

/-- What the running pair knows of the pairs met: its value bounds theirs and is the bottom or one of them; its number is
small; when it is zero the value is the bottom or the score numbered zero; when it is not, a met score numbered zero is
below the value. -/
structure Running (x : EReal) (l : List (EReal × BitVec 32)) (r : EReal × BitVec 32) : Prop where
  bound : ∀ p ∈ l, p.1 ≤ r.1
  mem : r.1 = ⊥ ∨ ∃ p ∈ l, r.1 = p.1
  small : r.2.toNat < 11
  zero : r.2 = 0#32 → r.1 = x ∨ r.1 = ⊥
  pos : (∃ p ∈ l, p.2 = 0#32) → r.2 ≠ 0#32 → x < r.1

/-- Between small numbers the signed order is the order of the naturals. -/
theorem slt_small {i j : BitVec 32} (hi : i.toNat < 11) (hj : j.toNat < 11) : i.slt j = decide (i.toNat < j.toNat) := by
  rw [BitVec.slt, BitVec.toInt_eq_toNat_cond, BitVec.toInt_eq_toNat_cond, if_pos (by omega), if_pos (by omega)]
  simp

/-- One more pair keeps what the running pair knows. -/
theorem Running.step {x : EReal} {l : List (EReal × BitVec 32)} {r b : EReal × BitVec 32} (h : Running x l r)
    (hb : b.2.toNat < 11) (h0 : b.2 = 0#32 → b.1 = x) (hl : ∀ p ∈ l, p.2 = 0#32 → p.1 = x) :
    Running x (l ++ [b]) (reducer_argmax_f32_i32 (F := Ideal) r b) := by
  rw [reducer_eq]
  have pos0 : ∀ i : BitVec 32, i ≠ 0#32 → 0 < i.toNat := fun i hi => Nat.pos_of_ne_zero fun e =>
    hi (BitVec.eq_of_toNat_eq (by simpa using e))
  have split : (∃ p ∈ l ++ [b], p.2 = 0#32) → (∃ p ∈ l, p.2 = 0#32) ∨ b.2 = 0#32 := by
    rintro ⟨p, hp, e⟩
    rcases List.mem_append.1 hp with hp | hp
    · exact .inl ⟨p, hp, e⟩
    · rw [List.mem_singleton.1 hp] at e; exact .inr e
  have all : ∀ v : EReal, r.1 ≤ v → b.1 ≤ v → ∀ p ∈ l ++ [b], p.1 ≤ v := by
    intro v hr hv p hp
    rcases List.mem_append.1 hp with hp | hp
    · exact (h.bound p hp).trans hr
    · rw [List.mem_singleton.1 hp]; exact hv
  have old : r.1 = ⊥ ∨ ∃ p ∈ l ++ [b], r.1 = p.1 := h.mem.imp id fun ⟨p, hp, e⟩ => ⟨p, List.mem_append_left _ hp, e⟩
  by_cases h1 : b.1 < r.1
  · rw [if_pos h1]
    exact ⟨all _ le_rfl h1.le, old, h.small, h.zero, fun hz hr => (split hz).elim (fun hz => h.pos hz hr) fun hz => h0 hz ▸ h1⟩
  · rw [if_neg h1]
    by_cases h2 : r.1 = b.1
    · rw [if_pos h2, slt_small h.small hb]
      by_cases h3 : r.2.toNat < b.2.toNat
      · rw [decide_eq_true h3, if_pos rfl]
        exact ⟨all _ le_rfl h2.ge, old, h.small, h.zero, fun hz hr => (split hz).elim (fun hz => h.pos hz hr) fun hz => by
          rw [hz] at h3; simp at h3⟩
      · rw [decide_eq_false h3, if_neg (by decide)]
        refine ⟨all _ le_rfl h2.ge, old, hb, fun hz => .inl (h2.trans (h0 hz)), fun hz hr => ?_⟩
        have hr' : r.2 ≠ 0#32 := by
          intro e
          have : 0 < b.2.toNat := pos0 _ hr
          rw [e] at h3
          exact h3 this
        exact (split hz).elim (fun hz => h.pos hz hr') fun hz => absurd hz hr
    · rw [if_neg h2]
      have h4 : r.1 < b.1 := lt_of_le_of_ne (not_lt.1 h1) h2
      exact ⟨all _ h4.le le_rfl, .inr ⟨b, List.mem_append_right _ (List.mem_singleton.2 rfl), rfl⟩, hb, fun hz => .inl (h0 hz),
        fun hz hr => (split hz).elim (fun ⟨p, hp, e⟩ => hl p hp e ▸ (h.bound p hp).trans_lt h4) fun hz => absurd hz hr⟩

/-- The number kept of a list of numbered scores is zero exactly when the score numbered zero bounds them all. -/
theorem foldl_zero {x : EReal} {l : List (EReal × BitVec 32)} (hl : ∀ p ∈ l, p.2.toNat < 11) (h0 : ∀ p ∈ l, p.2 = 0#32 → p.1 = x)
    (hx : (x, 0#32) ∈ l) :
    (l.foldl (reducer_argmax_f32_i32 (F := Ideal)) (⊥, 0#32)).2 = 0#32 ↔ ∀ p ∈ l, p.1 ≤ x := by
  have key : ∀ l' : List (EReal × BitVec 32), (∀ p ∈ l', p.2.toNat < 11) → (∀ p ∈ l', p.2 = 0#32 → p.1 = x) →
      Running x l' (l'.foldl (reducer_argmax_f32_i32 (F := Ideal)) (⊥, 0#32)) := by
    intro l'
    induction l' using List.reverseRecOn with
    | nil => exact fun _ _ => ⟨by simp, .inl rfl, by decide, fun _ => .inr rfl, by simp⟩
    | append_singleton l' b ih =>
      intro h1 h2
      rw [List.foldl_append]
      exact (ih (fun p hp => h1 p (List.mem_append_left _ hp)) fun p hp => h2 p (List.mem_append_left _ hp)).step
        (h1 b (List.mem_append_right _ (List.mem_singleton.2 rfl))) (h2 b (List.mem_append_right _ (List.mem_singleton.2 rfl)))
        fun p hp => h2 p (List.mem_append_left _ hp)
  have r := key l hl h0
  constructor
  · intro e p hp
    rcases r.zero e with e | e
    · exact e ▸ r.bound p hp
    · exact (r.bound p hp).trans (e.trans_le bot_le)
  · intro hall
    by_contra e
    have h1 := r.pos ⟨_, hx, rfl⟩ e
    rcases r.mem with e | ⟨p, hp, e⟩
    · rw [e] at h1; exact absurd h1 (not_lt.2 bot_le)
    · rw [e] at h1; exact absurd h1 (not_lt.2 (hall p hp))

/-- The best candidate's number is zero exactly when no candidate scores above the true one. -/
theorem best_zero (f : FVec Ideal S12x16x11x500 .f32) (k : Fin 12) (q : Fin 16) (t : Fin 500) :
    best f (ix3 k q t) = 0#32 ↔ ∀ j : Fin 11, f (ix4 k q j t) ≤ f (ix4 k q 0 t) := by
  unfold best
  rw [Ideal.argReduce_eq_reduce2, Host.reduce2_eq_foldl_fiber]
  have hi : ((constant (F := Ideal) S_ .f32 0xFF800000#32) (Shape.Idx.first h_S_), (constantI S_ 32 0#32) (Shape.Idx.first h_S_))
      = ((⊥ : EReal), 0#32) := Prod.ext Contrast.ofBits_bot rfl
  rw [hi]
  have hm : ∀ p : EReal × BitVec 32, p ∈ Host.argReduceFiber (α := EReal) f (iotaInDim S12x16x11x500 32 2)
      reducesTo_S12x16x11x500_S12x16x500_d2 (ix3 k q t) ↔ ∃ j : Fin 11, p = (f (ix4 k q j t), BitVec.ofNat 32 j.val) := by
    intro p
    unfold Host.argReduceFiber
    simp only [List.mem_map, List.mem_filter, List.mem_finRange, true_and, decide_eq_true_eq]
    constructor
    · rintro ⟨n, hn, rfl⟩
      obtain ⟨j, hj⟩ := (Shape.ReducesTo.fiber_r4_a2 reducesTo_S12x16x11x500_S12x16x500_d2 _ _).1 hn
      refine ⟨j, ?_⟩
      rw [← hj]; rfl
    · rintro ⟨j, rfl⟩
      refine ⟨S12x16x11x500.rowMajor (ix4 k q j t), ?_, ?_⟩
      · rw [Equiv.symm_apply_apply]
        exact (Shape.ReducesTo.fiber_r4_a2 reducesTo_S12x16x11x500_S12x16x500_d2 _ _).2 ⟨j, rfl⟩
      · rw [Equiv.symm_apply_apply]; rfl
  have h0 : ∀ j : Fin 11, BitVec.ofNat 32 j.val = 0#32 → j = 0 := by decide
  rw [foldl_zero (x := f (ix4 k q 0 t))]
  · constructor
    · exact fun h j => h _ ((hm _).2 ⟨j, rfl⟩)
    · intro h p hp
      obtain ⟨j, rfl⟩ := (hm p).1 hp
      exact h j
  · intro p hp
    obtain ⟨j, rfl⟩ := (hm p).1 hp
    have := j.isLt
    show (BitVec.ofNat 32 j.val).toNat < 11
    rw [BitVec.toNat_ofNat]; omega
  · intro p hp e
    obtain ⟨j, rfl⟩ := (hm p).1 hp
    show f (ix4 k q j t) = f (ix4 k q 0 t)
    rw [h0 j e]
  · exact (hm _).2 ⟨0, rfl⟩

end Cert.ReferenceIdeal.Ref

end
-- ==== Proof.RefRead.lean ====
module

public import proofs.«01_k».proof.Proof.RefRun
public import proofs.«01_k».proof.Proof.Argmax

/-
  The reference's stages, read entry by entry: its two results are the mean cross-entropy and the mean hits.
-/

@[expose] public section

noncomputable section

namespace Cert.ReferenceIdeal.Ref

open Cert.ReferenceIdeal Cert.ReferenceIdeal.Gen Idealize.ShloMosaic Idealize.SL.Sem

set_option maxRecDepth 16384

/-- The shifted latents at step `k` and frame `t` are the latents `k + 1` frames after `t`. -/
theorem shifted_apply (x : FVec Ideal S16x512x256 .f32) (k : Fin 12) (q : Fin 16) (t : Fin 500) (e : Fin 256) :
    shifted x (ix4 k q t e) = x (ix3 q (Contrast.later k t) e) := by
  pointwise [shifted, catSteps, shiftOne]
  fin_cases k
  all_goals exact congrArg (fun r => x (ix3 q r e)) (Fin.ext (Nat.add_comm _ _))

/-- The projected context. -/
theorem projected_apply (c : FVec Ideal S16x512x2048 .f32) (w : FVec Ideal S12x256x2048 .f32) (b : FVec Ideal S12x256 .f32)
    (k : Fin 12) (q : Fin 16) (t : Fin 500) (e : Fin 256) :
    projected c w b (ix4 k q t e)
      = Contrast.proj (fun r => c (ix3 q (t.castLE (by decide)) r)) (fun e r => w (ix3 k e r)) (fun e => b (ix2 k e)) e := by
  pointwise [projected]
  unfold Contrast.proj
  congr 1
  exact Finset.sum_congr rfl fun r _ => mul_comm _ _

/-- The frame of a draw. -/
theorem frames_apply (d : IVec S12x16x10x500 32) (k : Fin 12) (q : Fin 16) (j : Fin 10) (t : Fin 500) :
    frames d (ix4 k q j t) = Contrast.frameWord (d (ix4 k q j t)) t.val := by
  pointwise [frames, remainder, divisor, moved]
  rfl

/-- A small number is not negative, so that it stays what it is. -/
theorem select_small (w v : BitVec 32) (h : w.toNat < 2 ^ 31) : Scalar.select (IntOp.cmpi .slt w 0#32) v w = w := by
  have e : IntOp.cmpi .slt w 0#32 = 0#1 := by
    show BitVec.ofBool (w.slt 0#32) = 0#1
    rw [BitVec.slt, BitVec.toInt_eq_toNat_cond, if_pos (by omega), BitVec.toInt_zero, decide_eq_false (by omega)]
    rfl
  rw [e]; rfl

/-- The first component of an index is the step. -/
theorem index_step (d : IVec S12x16x10x500 32) (k : Fin 12) (q : Fin 16) (j : Fin 10) (t : Fin 500) :
    catIndex (stepIx stepNo) (seqIx seqNo) (frameIx (frames d)) (ix5 k q j t 0) = BitVec.ofNat 32 k.val := by
  have h : catIndex (stepIx stepNo) (seqIx seqNo) (frameIx (frames d)) (ix5 k q j t 0)
      = Scalar.select (IntOp.cmpi .slt (BitVec.ofNat 32 k.val) 0#32) (IntOp.addi (BitVec.ofNat 32 k.val) 12#32)
        (BitVec.ofNat 32 k.val) := by
    pointwise [catIndex, stepIx, seqIx, frameIx, stepNo, seqNo]
  rw [h, select_small]
  rw [BitVec.toNat_ofNat]; omega

/-- The second component of an index is the sequence. -/
theorem index_seq (d : IVec S12x16x10x500 32) (k : Fin 12) (q : Fin 16) (j : Fin 10) (t : Fin 500) :
    catIndex (stepIx stepNo) (seqIx seqNo) (frameIx (frames d)) (ix5 k q j t 1) = BitVec.ofNat 32 q.val := by
  have h : catIndex (stepIx stepNo) (seqIx seqNo) (frameIx (frames d)) (ix5 k q j t 1)
      = Scalar.select (IntOp.cmpi .slt (BitVec.ofNat 32 q.val) 0#32) (IntOp.addi (BitVec.ofNat 32 q.val) 16#32)
        (BitVec.ofNat 32 q.val) := by
    pointwise [catIndex, stepIx, seqIx, frameIx, stepNo, seqNo]
  rw [h, select_small]
  rw [BitVec.toNat_ofNat]; omega

/-- The third component of an index is the frame. -/
theorem index_frame (d : IVec S12x16x10x500 32) (k : Fin 12) (q : Fin 16) (j : Fin 10) (t : Fin 500) :
    catIndex (stepIx stepNo) (seqIx seqNo) (frameIx (frames d)) (ix5 k q j t 2)
      = Contrast.frameWord (d (ix4 k q j t)) t.val := by
  have h : catIndex (stepIx stepNo) (seqIx seqNo) (frameIx (frames d)) (ix5 k q j t 2)
      = Scalar.select (IntOp.cmpi .slt (frames d (ix4 k q j t)) 0#32) (IntOp.addi (frames d (ix4 k q j t)) 500#32)
        (frames d (ix4 k q j t)) := by
    pointwise [catIndex, stepIx, seqIx, frameIx, stepNo, seqNo]
  rw [h, select_small, frames_apply]
  rw [frames_apply]
  have := Contrast.frameWord_lt (d (ix4 k q j t)) t.val
  omega

/-- A gathered entry is the one its index names, when the index is inside the array. -/
theorem gather_apply (x : FVec Ideal S12x16x500x256 .f32) (ix : IVec S12x16x10x500x3 32) (k : Fin 12) (q : Fin 16)
    (j : Fin 10) (t : Fin 500) (e : Fin 256) (r : Fin 500) (h0 : ix (ix5 k q j t 0) = BitVec.ofNat 32 k.val)
    (h1 : ix (ix5 k q j t 1) = BitVec.ofNat 32 q.val) (h2 : (ix (ix5 k q j t 2)).toNat = r.val) :
    Host.gather gather_S12x16x500x256_S12x16x10x500x3_S12x16x10x500x256_4_012_n_n_012_4_111256 x ix (ix5 k q j t e)
      = x (ix4 k q r e) := by
  unfold Host.gather
  congr 1
  have toInt : ∀ w : BitVec 32, w.toNat < 500 → w.toInt.toNat = w.toNat := by
    intro w h
    rw [BitVec.toInt_eq_toNat_cond, if_pos (by omega)]
    exact Int.toNat_natCast _
  have s0 : ∀ c, gather_S12x16x500x256_S12x16x10x500x3_S12x16x10x500x256_4_012_n_n_012_4_111256.siIdx (ix5 k q j t e) c
      = ix5 k q j t c := by
    intro c
    funext a
    fin_cases a <;> rfl
  funext a
  apply Fin.ext
  match a with
  | ⟨0, _⟩ =>
    refine (congrArg (fun w : BitVec 32 => min w.toInt.toNat 11 + 0 + 0) ((congrArg ix (s0 ⟨0, by decide⟩)).trans h0)).trans ?_
    show min (BitVec.ofNat 32 k.val).toInt.toNat 11 + 0 + 0 = k.val
    rw [toInt _ (by rw [BitVec.toNat_ofNat]; omega), BitVec.toNat_ofNat]
    omega
  | ⟨1, _⟩ =>
    refine (congrArg (fun w : BitVec 32 => min w.toInt.toNat 15 + 0 + 0) ((congrArg ix (s0 ⟨1, by decide⟩)).trans h1)).trans ?_
    show min (BitVec.ofNat 32 q.val).toInt.toNat 15 + 0 + 0 = q.val
    rw [toInt _ (by rw [BitVec.toNat_ofNat]; omega), BitVec.toNat_ofNat]
    omega
  | ⟨2, _⟩ =>
    refine (congrArg (fun w : BitVec 32 => min w.toInt.toNat 499 + 0 + 0) (congrArg ix (s0 ⟨2, by decide⟩))).trans ?_
    show min (ix (ix5 k q j t 2)).toInt.toNat 499 + 0 + 0 = r.val
    rw [toInt _ (by rw [h2]; exact r.isLt), h2]
    omega
  | ⟨3, _⟩ =>
    show 0 + 0 + e.val = e.val
    omega

/-- A drawn latent is the latent `k + 1` frames after the drawn frame. -/
theorem negatives_apply (x : FVec Ideal S16x512x256 .f32) (d : IVec S12x16x10x500 32) (k : Fin 12) (q : Fin 16)
    (j : Fin 10) (t : Fin 500) (e : Fin 256) :
    negatives (shifted x) stepNo seqNo d (ix5 k q j t e)
      = x (ix3 q (Contrast.later k (Contrast.frameOf (d (ix4 k q j t)) t.val)) e) := by
  unfold negatives
  have h : (catIndex (stepIx stepNo) (seqIx seqNo) (frameIx (frames d)) (ix5 k q j t 2)).toNat
      = (Contrast.frameOf (d (ix4 k q j t)) t.val).val := by
    rw [index_frame]; rfl
  rw [gather_apply (shifted x) _ k q j t e _ (index_step d k q j t) (index_seq d k q j t) h, shifted_apply]

/-- The reference's scores are the eleven scores of each step, sequence and frame. -/
theorem refScores_apply (z : FVec Ideal S16x512x256 .f32) (c : FVec Ideal S16x512x2048 .f32) (w : FVec Ideal S12x256x2048 .f32)
    (b : FVec Ideal S12x256 .f32) (d : IVec S12x16x10x500 32) (k : Fin 12) (q : Fin 16) (j : Fin 11) (t : Fin 500) :
    refScores z c w b d (ix4 k q j t) = Contrast.scoresAt z c w b d k q t j := by
  have h : refScores z c w b d (ix4 k q j t) = Ideal.div (∑ e : Fin 256, (if h : j.val < 1 then shifted z (ix4 k q t e)
      else negatives (shifted z) stepNo seqNo d (ix5 k q ⟨j.val - 1, by omega⟩ t e)) * projected c w b (ix4 k q t e))
      (Ideal.ofBits .f32 0x41800000#32) := by
    unfold refScores
    pointwise [scored, catNeg]
  rw [h, Contrast.div_sixteen]
  unfold Contrast.scoresAt Contrast.score
  congr 1
  refine Finset.sum_congr rfl fun e _ => ?_
  rw [projected_apply]
  congr 1
  induction j using Fin.cases with
  | zero =>
    rw [dif_pos (by decide), shifted_apply]
    rfl
  | succ j =>
    rw [dif_neg (by rw [Fin.val_succ]; omega)]
    exact negatives_apply z d k q j t e

/-- The cross-entropy of a frame. -/
theorem entropies_apply (f : FVec Ideal S12x16x11x500 .f32) (k : Fin 12) (q : Fin 16) (t : Fin 500) :
    entropies f (ix3 k q t) = Contrast.entropy fun j => f (ix4 k q j t) := by
  pointwise [entropies, topScore]
  rfl

/-- The hit of a frame. -/
theorem correct_apply (f : FVec Ideal S12x16x11x500 .f32) (k : Fin 12) (q : Fin 16) (t : Fin 500) :
    correct f (ix3 k q t) = Contrast.hit fun j => f (ix4 k q j t) := by
  have h : correct f (ix3 k q t) = FloatOps.uitofp (F := Ideal) .f32 (IntOp.cmpi .eq (best f (ix3 k q t)) 0#32) := by
    pointwise [correct]
  rw [h]
  unfold Contrast.hit
  by_cases hs : ∀ j : Fin 11, f (ix4 k q j t) ≤ f (ix4 k q 0 t)
  · rw [if_pos hs, (best_zero f k q t).2 hs]
    show (((1#1 : BitVec 1).toNat : ℝ) : EReal) = 1
    norm_num
  · rw [if_neg hs]
    have e : IntOp.cmpi .eq (best f (ix3 k q t)) 0#32 = 0#1 := by
      show BitVec.ofBool (best f (ix3 k q t) == 0#32) = 0#1
      rw [beq_eq_false_iff_ne.2 fun h => hs ((best_zero f k q t).1 h)]; rfl
    rw [e]
    show (((0#1 : BitVec 1).toNat : ℝ) : EReal) = 0
    norm_num

/-- The mean over sequences and frames. -/
theorem stepMean_apply (g : FVec Ideal S12x16x500 .f32) (k : Fin 12) :
    stepMean g (ix1 k) = Contrast.mean (fun k q t => g (ix3 k q t)) k := by
  pointwise [stepMean]
  rfl

/-- The mean over steps of the mean cross-entropy. -/
theorem totalLoss_apply (f : FVec Ideal S12x16x11x500 .f32) :
    totalLoss f ix0 = Contrast.overSteps fun k => stepMean (entropies f) (ix1 k) := by
  pointwise [totalLoss]
  rfl

/-- The reference's first result. -/
theorem loss_eq (z : FVec Ideal S16x512x256 .f32) (c : FVec Ideal S16x512x2048 .f32) (w : FVec Ideal S12x256x2048 .f32)
    (b : FVec Ideal S12x256 .f32) (d : IVec S12x16x10x500 32) :
    totalLoss (refScores z c w b d)
      = fun _ => Contrast.overSteps (Contrast.mean fun k q t => Contrast.entropy (Contrast.scoresAt z c w b d k q t)) := by
  funext i
  rw [show i = ix0 from funext fun a => a.elim0, totalLoss_apply]
  simp only [stepMean_apply, entropies_apply, refScores_apply]

/-- The reference's second result. -/
theorem accs_eq (z : FVec Ideal S16x512x256 .f32) (c : FVec Ideal S16x512x2048 .f32) (w : FVec Ideal S12x256x2048 .f32)
    (b : FVec Ideal S12x256 .f32) (d : IVec S12x16x10x500 32) :
    stepMean (correct (refScores z c w b d))
      = fun i => Contrast.mean (fun k q t => Contrast.hit (Contrast.scoresAt z c w b d k q t)) (i 0) := by
  funext i
  idx_vars i
  rw [stepMean_apply]
  simp only [correct_apply, refScores_apply]

end Cert.ReferenceIdeal.Ref

end
-- ==== Proof.KernelBlock.lean ====
/- What the kernel's body leaves in its two result buffers at one grid point, written as twelve uses
   of one prediction step. -/
module

public import proofs.«01_k».proof.Proof.Gen.KernelIdeal.Frame

@[expose] public section

noncomputable section

namespace Cert.KernelIdeal.Block

open Cert.KernelIdeal Cert.KernelIdeal.Gen Idealize.ShloMosaic Idealize.SL.Sem

variable {F : FTy → Type} [FloatOps F]

/-- Columns `256 * k` to `256 * k + 255` of the projected context are inside it. -/
theorem slices_step : ∀ k : Fin 12, S512x3072.Slices ![0, 256 * k.val] S500x256 := by decide

/-- Row `(k, j)` of the index block is inside it. -/
theorem inb_words : ∀ (k : Fin 12) (j : Fin 10) (a : Fin 4),
    (![0, k.val, j.val, 0] : Fin 4 → Nat) a + S1x1x1x500.size a ≤ S1x12x10x500.size a := by decide

/-- The scaled scores of step `k`: latents (rows) against the step's projected context (columns). -/
def scores (z : FVec F S512x256 .f32) (wc : FVec F S512x3072 .f32) (k : Fin 12) : FVec F S512x500 .f32 :=
  mulf (matmul dot_S512x256_S500x256_S512x500_1_1_0_0_n_n none z
      (extractStridedSlice S500x256 ![0, 256 * k.val] wc (slices_step k)) (constant S512x500 .f32 0x00000000#32))
    (broadcast S512x500 (Scalar.ofBits .f32 0x3D800000#32 : F .f32))

/-- From every column of `s`, the sum of the entries at the rows `m` marks. -/
def pickSum (m : IVec S512x500 1) (s : FVec F S512x500 .f32) : FVec F S1x500 .f32 :=
  shapeCast S1x500 (multiReduction .add [0] S500
      (select m s (broadcast S512x500 (Scalar.ofBits .f32 0x00000000#32 : F .f32))) 0x00000000#32
      reduces_S512x500_S500 (.inl rfl) rfl) shapeCasts_S500_S1x500

/-- The score of the true latent, `k + 1` frames ahead. -/
def diagRow (z : FVec F S512x256 .f32) (wc : FVec F S512x3072 .f32) (k : Fin 12) : FVec F S1x500 .f32 :=
  pickSum (cmpi .eq (iota .tc S512x500 32 [0] iota_S512x500_d0_w32)
      (addi (iota .tc S512x500 32 [1] iota_S512x500_d1_w32) (broadcast S512x500 (BitVec.ofNat 32 (k.val + 1)))))
    (scores z wc k)

/-- The words of row `(k, j)` of the index block. -/
def words (x4 : Vec F S1x12x10x500 .i32) (k : Fin 12) (j : Fin 10) : Vec F S1x1x1x500 .i32 :=
  View.ld x4 (Rect.unit (s := S1x12x10x500) ![0, k.val, j.val, 0] S1x1x1x500.size (inb_words k j))

/-- The score of the `j`-th negative. -/
def pickRow (z : FVec F S512x256 .f32) (wc : FVec F S512x3072 .f32) (x4 : Vec F S1x12x10x500 .i32) (k : Fin 12) (j : Fin 10) :
    FVec F S1x500 .f32 :=
  pickSum (cmpi .eq (iota .tc S512x500 32 [0] iota_S512x500_d0_w32)
      (broadcastTo S512x500 (shapeCast S1x500 (words x4 k j : IVec S1x1x1x500 32) shapeCasts_S1x1x1x500_S1x500)
        broadcasts_S1x500_S512x500)) (scores z wc k)

/-- The true latent's scores above those of the ten negatives. -/
def stack (z : FVec F S512x256 .f32) (wc : FVec F S512x3072 .f32) (x4 : Vec F S1x12x10x500 .i32) (k : Fin 12) : FVec F S11x500 .f32 :=
  concatenate S11x500 0 [⟨S1x500, diagRow z wc k⟩, ⟨S1x500, pickRow z wc x4 k 0⟩, ⟨S1x500, pickRow z wc x4 k 1⟩, ⟨S1x500, pickRow z wc x4 k 2⟩, ⟨S1x500, pickRow z wc x4 k 3⟩, ⟨S1x500, pickRow z wc x4 k 4⟩, ⟨S1x500, pickRow z wc x4 k 5⟩, ⟨S1x500, pickRow z wc x4 k 6⟩, ⟨S1x500, pickRow z wc x4 k 7⟩, ⟨S1x500, pickRow z wc x4 k 8⟩, ⟨S1x500, pickRow z wc x4 k 9⟩] concatenates_S1x500_S1x500_S1x500_S1x500_S1x500_S1x500_S1x500_S1x500_S1x500_S1x500_S1x500_S11x500_d0

/-- Per column, the largest of the eleven scores. -/
def top (f : FVec F S11x500 .f32) : FVec F S1x500 .f32 :=
  shapeCast S1x500 (multiReduction .maximumf [0] S500 f 0xFF800000#32 reduces_S11x500_S500 (.inl rfl) rfl) shapeCasts_S500_S1x500

/-- Per column, the cross entropy of eleven scores with first row `g`. -/
def losses (g : FVec F S1x500 .f32) (f : FVec F S11x500 .f32) : FVec F S1x500 .f32 :=
  subf (addf (top f) (log (shapeCast S1x500 (multiReduction .add [0] S500
      (exp (subf f (broadcastTo S11x500 (top f) broadcasts_S1x500_S11x500))) 0x00000000#32
      reduces_S11x500_S500 (.inl rfl) rfl) shapeCasts_S500_S1x500))) g

/-- Per column, one when `g` is at least each of the scores below the first, else zero. -/
def hits (g : FVec F S1x500 .f32) (f : FVec F S11x500 .f32) : FVec F S1x500 .f32 :=
  sitofp .f32 (extui 32 (cmpf .oge g (shapeCast S1x500 (multiReduction .maximumf [0] S500
      (extractStridedSlice S10x500 ![1, 0] f slices_S11x500_o1_0_S10x500) 0xFF800000#32
      reduces_S10x500_S500 (.inl rfl) rfl) shapeCasts_S500_S1x500)) natLt_1_32)

/-- The sum of a row. -/
def rowSum (g : FVec F S1x500 .f32) : FVec F S1x1 .f32 :=
  shapeCast S1x1 (multiReduction .add [1] S1 g 0x00000000#32 reduces_S1x500_S1 (.inl rfl) rfl) shapeCasts_S1_S1x1

/-- The summed cross entropy of step `k`. -/
def lossStep (z : FVec F S512x256 .f32) (wc : FVec F S512x3072 .f32) (x4 : Vec F S1x12x10x500 .i32) (k : Fin 12) : FVec F S1x1 .f32 :=
  rowSum (losses (diagRow z wc k) (stack z wc x4 k))

/-- The number of hits of step `k`. -/
def hitStep (z : FVec F S512x256 .f32) (wc : FVec F S512x3072 .f32) (x4 : Vec F S1x12x10x500 .i32) (k : Fin 12) : FVec F S1x1 .f32 :=
  rowSum (hits (diagRow z wc k) (stack z wc x4 k))

/-- The twelve summed losses of one block. -/
def lossRow (x0 : Vec F S1x512x256 .f32) (x1 : Vec F S1x512x2048 .f32) (x2 : Vec F S3072x2048 .f32) (x3 : Vec F S1x3072 .f32)
    (x4 : Vec F S1x12x10x500 .i32) : FVec F S1x12 .f32 :=
  concatenate S1x12 1 [⟨S1x1, lossStep (k0_pay2 x0) (k0_pay3 x1 x2 x3) x4 0⟩, ⟨S1x1, lossStep (k0_pay2 x0) (k0_pay3 x1 x2 x3) x4 1⟩, ⟨S1x1, lossStep (k0_pay2 x0) (k0_pay3 x1 x2 x3) x4 2⟩, ⟨S1x1, lossStep (k0_pay2 x0) (k0_pay3 x1 x2 x3) x4 3⟩, ⟨S1x1, lossStep (k0_pay2 x0) (k0_pay3 x1 x2 x3) x4 4⟩, ⟨S1x1, lossStep (k0_pay2 x0) (k0_pay3 x1 x2 x3) x4 5⟩, ⟨S1x1, lossStep (k0_pay2 x0) (k0_pay3 x1 x2 x3) x4 6⟩, ⟨S1x1, lossStep (k0_pay2 x0) (k0_pay3 x1 x2 x3) x4 7⟩, ⟨S1x1, lossStep (k0_pay2 x0) (k0_pay3 x1 x2 x3) x4 8⟩, ⟨S1x1, lossStep (k0_pay2 x0) (k0_pay3 x1 x2 x3) x4 9⟩, ⟨S1x1, lossStep (k0_pay2 x0) (k0_pay3 x1 x2 x3) x4 10⟩, ⟨S1x1, lossStep (k0_pay2 x0) (k0_pay3 x1 x2 x3) x4 11⟩] concatenates_S1x1_S1x1_S1x1_S1x1_S1x1_S1x1_S1x1_S1x1_S1x1_S1x1_S1x1_S1x1_S1x12_d1

/-- The twelve counts of hits of one block. -/
def hitRow (x0 : Vec F S1x512x256 .f32) (x1 : Vec F S1x512x2048 .f32) (x2 : Vec F S3072x2048 .f32) (x3 : Vec F S1x3072 .f32)
    (x4 : Vec F S1x12x10x500 .i32) : FVec F S1x12 .f32 :=
  concatenate S1x12 1 [⟨S1x1, hitStep (k0_pay2 x0) (k0_pay3 x1 x2 x3) x4 0⟩, ⟨S1x1, hitStep (k0_pay2 x0) (k0_pay3 x1 x2 x3) x4 1⟩, ⟨S1x1, hitStep (k0_pay2 x0) (k0_pay3 x1 x2 x3) x4 2⟩, ⟨S1x1, hitStep (k0_pay2 x0) (k0_pay3 x1 x2 x3) x4 3⟩, ⟨S1x1, hitStep (k0_pay2 x0) (k0_pay3 x1 x2 x3) x4 4⟩, ⟨S1x1, hitStep (k0_pay2 x0) (k0_pay3 x1 x2 x3) x4 5⟩, ⟨S1x1, hitStep (k0_pay2 x0) (k0_pay3 x1 x2 x3) x4 6⟩, ⟨S1x1, hitStep (k0_pay2 x0) (k0_pay3 x1 x2 x3) x4 7⟩, ⟨S1x1, hitStep (k0_pay2 x0) (k0_pay3 x1 x2 x3) x4 8⟩, ⟨S1x1, hitStep (k0_pay2 x0) (k0_pay3 x1 x2 x3) x4 9⟩, ⟨S1x1, hitStep (k0_pay2 x0) (k0_pay3 x1 x2 x3) x4 10⟩, ⟨S1x1, hitStep (k0_pay2 x0) (k0_pay3 x1 x2 x3) x4 11⟩] concatenates_S1x1_S1x1_S1x1_S1x1_S1x1_S1x1_S1x1_S1x1_S1x1_S1x1_S1x1_S1x1_S1x12_d1

set_option maxRecDepth 16384 in
set_option maxHeartbeats 4000000 in
/-- The body stores the twelve losses of its blocks in the first result. -/
theorem out0_5_eq (x0 : Vec F S1x512x256 .f32) (x1 : Vec F S1x512x2048 .f32) (x2 : Vec F S3072x2048 .f32) (x3 : Vec F S1x3072 .f32)
    (x4 : Vec F S1x12x10x500 .i32) :
    out0_5 x0 x1 x2 x3 x4 = View.canon [⟨r0_124, shapeCast S1x1x12
      (lossRow (View.ld x0 r0_0) (View.ld x1 r0_1) (View.ld x2 r0_2) (View.ld x3 r0_3) x4) shapeCasts_S1x12_S1x1x12⟩] := by
  rfl

set_option maxRecDepth 16384 in
set_option maxHeartbeats 4000000 in
/-- The body stores the twelve counts of its blocks in the second result. -/
theorem out0_6_eq (x0 : Vec F S1x512x256 .f32) (x1 : Vec F S1x512x2048 .f32) (x2 : Vec F S3072x2048 .f32) (x3 : Vec F S1x3072 .f32)
    (x4 : Vec F S1x12x10x500 .i32) :
    out0_6 x0 x1 x2 x3 x4 = View.canon [⟨r0_124, shapeCast S1x1x12
      (hitRow (View.ld x0 r0_0) (View.ld x1 r0_1) (View.ld x2 r0_2) (View.ld x3 r0_3) x4) shapeCasts_S1x12_S1x1x12⟩] := by
  rfl

end Cert.KernelIdeal.Block

end
-- ==== Proof.KernelRead.lean ====
module

public import proofs.«01_k».proof.Proof.KernelBlock
public import proofs.«01_k».proof.Proof.Spec

/-
  One block of the kernel, read entry by entry: its two rows hold, for each step, the summed cross-entropy and the number
  of hits of the block's 500 frames.
-/

@[expose] public section

noncomputable section

namespace Cert.KernelIdeal.Block

open Cert.KernelIdeal Cert.KernelIdeal.Gen Idealize.ShloMosaic Idealize.SL.Sem

set_option maxRecDepth 16384

variable (z : FVec Ideal S512x256 .f32) (wc : FVec Ideal S512x3072 .f32) (x4 : Vec Ideal S1x12x10x500 .i32)

/-- A score is the product of a latent row and a projected row over 256 features, times one sixteenth. -/
theorem scores_apply (k : Fin 12) (r : Fin 512) (t : Fin 500) :
    scores z wc k (ix2 r t) = (∑ e : Fin 256, z (ix2 r e) * wc (ix2 (t.castLE (by decide)) ⟨256 * k.val + e.val, by omega⟩))
      * Ideal.ofBits .f32 0x3D800000#32 := by
  pointwise [scores]
  rfl

/-- The true latent's score is the score of the row `k + 1` frames ahead. -/
theorem diagRow_apply (k : Fin 12) (t : Fin 500) :
    diagRow z wc k (ix2 0 t) = scores z wc k (ix2 (Contrast.later k t) t) := by
  have h : diagRow z wc k (ix2 0 t) = ∑ x : Fin 512, Scalar.select (IntOp.cmpi .eq (BitVec.ofNat 32 x.val)
      (IntOp.addi (BitVec.ofNat 32 t.val) (BitVec.ofNat 32 (k.val + 1)))) (scores z wc k (ix2 x t)) 0 := by
    pointwise [diagRow, pickSum]
  rw [h]
  refine Contrast.sum_pick (fun x => scores z wc k (ix2 x t)) _ (Contrast.later k t) ?_
  have := t.isLt
  have := k.isLt
  rw [IntOp.addi, BitVec.toNat_add, BitVec.toNat_ofNat, BitVec.toNat_ofNat]
  show _ = t.val + (k.val + 1)
  omega

/-- A drawn latent's score is the score of the row its word names. -/
theorem pickRow_apply (k : Fin 12) (j : Fin 10) (t : Fin 500) (r : Fin 512)
    (hr : (x4 (ix4 0 k j t) : BitVec 32).toNat = r.val) :
    pickRow z wc x4 k j (ix2 0 t) = scores z wc k (ix2 r t) := by
  have h : pickRow z wc x4 k j (ix2 0 t) = ∑ x : Fin 512, Scalar.select (IntOp.cmpi .eq (BitVec.ofNat 32 x.val)
      (x4 (ix4 0 k j t))) (scores z wc k (ix2 x t)) 0 := by
    pointwise [pickRow, pickSum, words]
  rw [h]
  exact Contrast.sum_pick (fun x => scores z wc k (ix2 x t)) _ r hr

/-- The stack holds the true latent's scores, then the ten drawn ones. -/
theorem stack_zero (k : Fin 12) (t : Fin 500) : stack z wc x4 k (ix2 0 t) = diagRow z wc k (ix2 0 t) := by
  pointwise [stack]

/-- The stack holds the true latent's scores, then the ten drawn ones. -/
theorem stack_succ (k : Fin 12) (j : Fin 10) (t : Fin 500) :
    stack z wc x4 k (ix2 j.succ t) = pickRow z wc x4 k j (ix2 0 t) := by
  pointwise [stack]
  fin_cases j
  all_goals rfl

/-- The eleven scores of a frame, when the words of the index block name the rows `k + 1` frames after given frames. -/
theorem stack_score (p : Fin 256 → EReal) (k : Fin 12) (t : Fin 500) (g : Fin 10 → Fin 500)
    (hp : ∀ e : Fin 256, wc (ix2 (t.castLE (by decide)) ⟨256 * k.val + e.val, by omega⟩) = p e)
    (hg : ∀ j : Fin 10, (x4 (ix4 0 k j t) : BitVec 32).toNat = (g j).val + (k.val + 1)) (j : Fin 11) :
    stack z wc x4 k (ix2 j t) = Contrast.score (fun r e => z (ix2 r e)) p k (Fin.cons t g) j := by
  induction j using Fin.cases with
  | zero =>
    rw [stack_zero, diagRow_apply, scores_apply]
    simp only [hp]
    rfl
  | succ j =>
    rw [stack_succ, pickRow_apply z wc x4 k j t (Contrast.later k (g j)) (hg j), scores_apply]
    simp only [hp]
    rfl

/-- The cross-entropy of a column. -/
theorem losses_apply (g : FVec Ideal S1x500 .f32) (f : FVec Ideal S11x500 .f32) (t : Fin 500) (s : Fin 11 → EReal)
    (hf : ∀ j : Fin 11, f (ix2 j t) = s j) (hg : g (ix2 0 t) = s 0) :
    losses g f (ix2 0 t) = Contrast.entropy s := by
  pointwise [losses, top]
  simp only [hf, hg]
  unfold Contrast.entropy
  rw [add_comm (Ideal.log _)]
  rfl

/-- The hit of a column. -/
theorem hits_apply (g : FVec Ideal S1x500 .f32) (f : FVec Ideal S11x500 .f32) (t : Fin 500) (s : Fin 11 → EReal)
    (hf : ∀ j : Fin 11, f (ix2 j t) = s j) (hg : g (ix2 0 t) = s 0) :
    hits g f (ix2 0 t) = Contrast.hit s := by
  pointwise [hits]
  simp only [hf, hg]
  unfold Contrast.hit
  have h : (Finset.fold max (Ideal.ofBits .f32 0xFF800000#32) (fun x : Fin 10 => s ⟨1 + x.val, by omega⟩) Finset.univ ≤ s 0)
      ↔ ∀ j, s j ≤ s 0 := by
    rw [Finset.fold_max_le, Contrast.ofBits_bot]
    constructor
    · rintro ⟨_, h⟩ j
      induction j using Fin.cases with
      | zero => exact le_rfl
      | succ j => exact (congrArg s (Fin.ext (by simp [add_comm]))).trans_le (h j (Finset.mem_univ j))
    · exact fun h => ⟨bot_le, fun j _ => h _⟩
  rw [decide_eq_decide.2 h]
  by_cases hs : ∀ j, s j ≤ s 0
  · rw [if_pos hs, decide_eq_true hs]
    show (((BitVec.setWidth 32 (BitVec.ofBool true)).toInt : ℝ) : EReal) = 1
    rw [show (BitVec.setWidth 32 (BitVec.ofBool true)).toInt = 1 by decide]
    norm_num
  · rw [if_neg hs, decide_eq_false hs]
    show (((BitVec.setWidth 32 (BitVec.ofBool false)).toInt : ℝ) : EReal) = 0
    norm_num

/-- The sum of a row. -/
theorem rowSum_apply (g : FVec Ideal S1x500 .f32) : rowSum g (ix2 0 0) = ∑ t : Fin 500, g (ix2 0 t) := by
  pointwise [rowSum]

/-- A block's projected context. -/
theorem proj_apply (x1 : Vec Ideal S1x512x2048 .f32) (x2 : Vec Ideal S3072x2048 .f32) (x3 : Vec Ideal S1x3072 .f32)
    (r : Fin 512) (i : Fin 3072) :
    k0_pay3 x1 x2 x3 (ix2 r i) = (∑ x : Fin 2048, x1 (ix3 0 r x) * x2 (ix2 i x)) + x3 (ix2 0 i) := by
  pointwise [k0_pay3]

/-- A block's latents. -/
theorem latent_apply (x0 : Vec Ideal S1x512x256 .f32) (r : Fin 512) (e : Fin 256) : k0_pay2 x0 (ix2 r e) = x0 (ix3 0 r e) := by
  pointwise [k0_pay2]

variable (x0 : Vec Ideal S1x512x256 .f32) (x1 : Vec Ideal S1x512x2048 .f32) (x2 : Vec Ideal S3072x2048 .f32)
  (x3 : Vec Ideal S1x3072 .f32)

/-- The eleven scores a block's arrays give at a step and a frame. -/
def blockScores (g : Fin 10 → Fin 500) (k : Fin 12) (t : Fin 500) : Fin 11 → EReal :=
  Contrast.score (fun r e => x0 (ix3 0 r e))
    (Contrast.proj (fun r => x1 (ix3 0 (t.castLE (by decide)) r)) (fun e r => x2 (ix2 ⟨256 * k.val + e.val, by omega⟩ r))
      fun e => x3 (ix2 0 ⟨256 * k.val + e.val, by omega⟩)) k (Fin.cons t g)

/-- A block's stack holds those scores. -/
theorem stack_block (k : Fin 12) (t : Fin 500) (g : Fin 10 → Fin 500)
    (hg : ∀ j : Fin 10, (x4 (ix4 0 k j t) : BitVec 32).toNat = (g j).val + (k.val + 1)) (j : Fin 11) :
    stack (k0_pay2 x0) (k0_pay3 x1 x2 x3) x4 k (ix2 j t) = blockScores x0 x1 x2 x3 g k t j := by
  rw [stack_score (k0_pay2 x0) (k0_pay3 x1 x2 x3) x4 _ k t g (fun e => proj_apply x1 x2 x3 _ _) hg j]
  unfold blockScores
  congr 1
  funext r e
  exact latent_apply x0 r e

/-- A block's summed cross-entropy at a step. -/
theorem lossStep_apply (k : Fin 12) (g : Fin 500 → Fin 10 → Fin 500)
    (hg : ∀ (t : Fin 500) (j : Fin 10), (x4 (ix4 0 k j t) : BitVec 32).toNat = (g t j).val + (k.val + 1)) :
    lossStep (k0_pay2 x0) (k0_pay3 x1 x2 x3) x4 k (ix2 0 0)
      = ∑ t, Contrast.entropy (blockScores x0 x1 x2 x3 (g t) k t) := by
  unfold lossStep
  rw [rowSum_apply]
  refine Finset.sum_congr rfl fun t _ => losses_apply _ _ t _ (fun j => stack_block x4 x0 x1 x2 x3 k t (g t) (hg t) j) ?_
  rw [← stack_zero (k0_pay2 x0) (k0_pay3 x1 x2 x3) x4, stack_block x4 x0 x1 x2 x3 k t (g t) (hg t)]

/-- A block's number of hits at a step. -/
theorem hitStep_apply (k : Fin 12) (g : Fin 500 → Fin 10 → Fin 500)
    (hg : ∀ (t : Fin 500) (j : Fin 10), (x4 (ix4 0 k j t) : BitVec 32).toNat = (g t j).val + (k.val + 1)) :
    hitStep (k0_pay2 x0) (k0_pay3 x1 x2 x3) x4 k (ix2 0 0)
      = ∑ t, Contrast.hit (blockScores x0 x1 x2 x3 (g t) k t) := by
  unfold hitStep
  rw [rowSum_apply]
  refine Finset.sum_congr rfl fun t _ => hits_apply _ _ t _ (fun j => stack_block x4 x0 x1 x2 x3 k t (g t) (hg t) j) ?_
  rw [← stack_zero (k0_pay2 x0) (k0_pay3 x1 x2 x3) x4, stack_block x4 x0 x1 x2 x3 k t (g t) (hg t)]

/-- The row of losses holds the steps' losses. -/
theorem lossRow_step (k : Fin 12) :
    lossRow x0 x1 x2 x3 x4 (ix2 0 k) = lossStep (k0_pay2 x0) (k0_pay3 x1 x2 x3) x4 k (ix2 0 0) := by
  pointwise [lossRow]
  fin_cases k
  all_goals rfl

/-- The row of counts holds the steps' counts. -/
theorem hitRow_step (k : Fin 12) :
    hitRow x0 x1 x2 x3 x4 (ix2 0 k) = hitStep (k0_pay2 x0) (k0_pay3 x1 x2 x3) x4 k (ix2 0 0) := by
  pointwise [hitRow]
  fin_cases k
  all_goals rfl

end Cert.KernelIdeal.Block

end
-- ==== Proof.KernelTable.lean ====
/- What the operations before the kernel leave for it: the table of row numbers, and the weights and
   the offsets laid out as matrices. -/
module

public import proofs.«01_k».proof.Proof.Gen.KernelIdeal.Frame

@[expose] public section

noncomputable section

namespace Cert.KernelIdeal.Table

open Cert.KernelIdeal Cert.KernelIdeal.Gen Idealize.ShloMosaic Idealize.ShloMosaic.TcCoe Idealize.SL.Sem

variable {F : FTy → Type} [FloatOps F]

/-- The draws of step `k` are inside the array of draws. -/
theorem slices_draws : ∀ k : Fin 12, S12x16x10x500.Slices ![k.val, 0, 0, 0] S1x16x10x500 := by decide

/-- The draws of step `k`, each moved by its frame. -/
def movedOf (d : IVec S12x16x10x500 32) (k : Fin 12) : IVec S16x10x500 32 :=
  addi (shapeCast S16x10x500 (extractStridedSlice S1x16x10x500 ![k.val, 0, 0, 0] d (slices_draws k)) shapeCasts_S1x16x10x500_S16x10x500)
    (broadcastInDim S16x10x500 ![0, 1, 2] bcast_S1x1x500_S16x10x500_0_1_2
      (broadcastInDim S1x1x500 ![2] bcast_S500_S1x1x500_2 (iotaInDim S500 32 0)))

/-- The divisor of the remainder: 500, or one in the place of zero. -/
def divisor : IVec S_ 32 :=
  select (cmpi .eq (id (constantI S_ 32 500#32)) (constantI S_ 32 0#32)) (constantI S_ 32 1#32) (id (constantI S_ 32 500#32))

/-- The truncated remainder of the moved draws. -/
def remainderOf (d : IVec S12x16x10x500 32) (k : Fin 12) : IVec S16x10x500 32 :=
  Host.remsi (movedOf d k) (broadcastInDim S16x10x500 ![] bcast_S_S16x10x500 divisor)

/-- The remainder of the moved draws with the divisor's sign. -/
def framesOf (d : IVec S12x16x10x500 32) (k : Fin 12) : IVec S16x10x500 32 :=
  select (andi (cmpi .ne (cmpi .slt (remainderOf d k) (broadcastInDim S16x10x500 ![] bcast_S_S16x10x500 (constantI S_ 32 0#32)))
        (broadcastInDim S16x10x500 ![] bcast_S_S16x10x500 (cmpi .slt divisor (constantI S_ 32 0#32))))
      (cmpi .ne (remainderOf d k) (broadcastInDim S16x10x500 ![] bcast_S_S16x10x500 (constantI S_ 32 0#32))))
    (addi (remainderOf d k) (broadcastInDim S16x10x500 ![] bcast_S_S16x10x500 divisor)) (remainderOf d k)

/-- The row numbers of step `k`: its frames, `k + 1` further. -/
def rowOf (d : IVec S12x16x10x500 32) (k : Fin 12) : IVec S16x10x500 32 :=
  addi (framesOf d k) (broadcastInDim S16x10x500 ![] bcast_S_S16x10x500 (constantI S_ 32 (BitVec.ofNat 32 (k.val + 1))))

/-- Twelve tables of one step each, put together along the steps. -/
def catRows (u0 u1 u2 u3 u4 u5 u6 u7 u8 u9 u10 u11 : IVec S1x16x10x500 32) : IVec S12x16x10x500 32 :=
  concatenate S12x16x10x500 0 [⟨S1x16x10x500, u0⟩, ⟨S1x16x10x500, u1⟩, ⟨S1x16x10x500, u2⟩, ⟨S1x16x10x500, u3⟩, ⟨S1x16x10x500, u4⟩, ⟨S1x16x10x500, u5⟩, ⟨S1x16x10x500, u6⟩, ⟨S1x16x10x500, u7⟩, ⟨S1x16x10x500, u8⟩, ⟨S1x16x10x500, u9⟩, ⟨S1x16x10x500, u10⟩, ⟨S1x16x10x500, u11⟩] concatenates_S1x16x10x500_S1x16x10x500_S1x16x10x500_S1x16x10x500_S1x16x10x500_S1x16x10x500_S1x16x10x500_S1x16x10x500_S1x16x10x500_S1x16x10x500_S1x16x10x500_S1x16x10x500_S12x16x10x500_d0

/-- A step's table as one member of the stack. -/
def asStep (r : IVec S16x10x500 32) : IVec S1x16x10x500 32 :=
  broadcastInDim S1x16x10x500 ![1, 2, 3] bcast_S16x10x500_S1x16x10x500_1_2_3 r

/-- The table of row numbers, sequences first. -/
def table (d : IVec S12x16x10x500 32) : IVec S16x12x10x500 32 :=
  transpose S16x12x10x500 [1, 0, 2, 3] (catRows (asStep (rowOf d 0)) (asStep (rowOf d 1)) (asStep (rowOf d 2)) (asStep (rowOf d 3)) (asStep (rowOf d 4)) (asStep (rowOf d 5)) (asStep (rowOf d 6)) (asStep (rowOf d 7)) (asStep (rowOf d 8)) (asStep (rowOf d 9)) (asStep (rowOf d 10)) (asStep (rowOf d 11))) transposes_S12x16x10x500_S16x12x10x500_1_0_2_3

/-- The operations that stack the twelve tables. -/
abbrev lastOps : List (HloOp τ sig (Elt F)) :=
  [ StableHlo.nullary main_c_22 (constantI S_ 32 12#32),
    StableHlo.unary main_c_22 main_v95 (broadcastInDim S16x10x500 ![] bcast_S_S16x10x500 : (⟨S_, .i32⟩ : BufTy).Contents (Elt F) → (⟨S16x10x500, .i32⟩ : BufTy).Contents (Elt F)),
    StableHlo.binary main_v94 main_v95 main_v96 (addi : (⟨S16x10x500, .i32⟩ : BufTy).Contents (Elt F) → (⟨S16x10x500, .i32⟩ : BufTy).Contents (Elt F) → (⟨S16x10x500, .i32⟩ : BufTy).Contents (Elt F)),
    StableHlo.unary main_v8 main_v97 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v16 main_v98 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v24 main_v99 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v32 main_v100 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v40 main_v101 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v48 main_v102 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v56 main_v103 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v64 main_v104 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v72 main_v105 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v80 main_v106 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v88 main_v107 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.unary main_v96 main_v108 (broadcastInDim S1x16x10x500 ![1, 2, 3] bcast_S16x10x500_S1x16x10x500_1_2_3 : (⟨S16x10x500, .i32⟩ : BufTy).Contents (Elt F) → (⟨S1x16x10x500, .i32⟩ : BufTy).Contents (Elt F)),
    StableHlo.nary ![main_v97, main_v98, main_v99, main_v100, main_v101, main_v102, main_v103, main_v104, main_v105, main_v106, main_v107, main_v108] main_v109 (fun u => catRows (u 0) (u 1) (u 2) (u 3) (u 4) (u 5) (u 6) (u 7) (u 8) (u 9) (u 10) (u 11)),
    StableHlo.unary main_v109 main_v110 ((transpose S16x12x10x500 [1, 0, 2, 3] · transposes_S12x16x10x500_S16x12x10x500_1_0_2_3) : (⟨S12x16x10x500, .i32⟩ : BufTy).Contents (Elt F) → (⟨S16x12x10x500, .i32⟩ : BufTy).Contents (Elt F)),
    StableHlo.reshape main_arg2 main_v111 (rfl : (.f32 : EltTy) = .f32) shapeCasts_S12x256x2048_S3072x2048,
    StableHlo.reshape main_arg3 main_v112 (rfl : (.f32 : EltTy) = .f32) shapeCasts_S12x256_S1x3072 ]

set_option maxRecDepth 16384
set_option maxHeartbeats 8000000

theorem last_v110 (W : Valuation τ sig (Elt F)) :
    StableHlo.after lastOps W (Proc.devRef .tc main_v110) = transpose S16x12x10x500 [1, 0, 2, 3]
      (catRows (asStep (W (Proc.devRef .tc main_v8))) (asStep (W (Proc.devRef .tc main_v16))) (asStep (W (Proc.devRef .tc main_v24))) (asStep (W (Proc.devRef .tc main_v32))) (asStep (W (Proc.devRef .tc main_v40))) (asStep (W (Proc.devRef .tc main_v48))) (asStep (W (Proc.devRef .tc main_v56))) (asStep (W (Proc.devRef .tc main_v64))) (asStep (W (Proc.devRef .tc main_v72))) (asStep (W (Proc.devRef .tc main_v80))) (asStep (W (Proc.devRef .tc main_v88))) (asStep (addi (W (Proc.devRef .tc main_v94)) (broadcastInDim S16x10x500 ![] bcast_S_S16x10x500 (constantI S_ 32 12#32)))))
      transposes_S12x16x10x500_S16x12x10x500_1_0_2_3 := by
  simp only [lastOps]; after_results_simp <;> (try dsimp only [Matrix.cons_val]) <;> (try after_results_simp) <;> rfl

theorem last_v111 (W : Valuation τ sig (Elt F)) :
    StableHlo.after lastOps W (Proc.devRef .tc main_v111) = shapeCast S3072x2048 (W (Proc.devRef .tc main_arg2) : FVec F S12x256x2048 .f32) shapeCasts_S12x256x2048_S3072x2048 := by
  simp only [lastOps]; after_results_simp <;> rfl

theorem last_v112 (W : Valuation τ sig (Elt F)) :
    StableHlo.after lastOps W (Proc.devRef .tc main_v112) = shapeCast S1x3072 (W (Proc.devRef .tc main_arg3) : FVec F S12x256 .f32) shapeCasts_S12x256_S1x3072 := by
  simp only [lastOps]; after_results_simp <;> rfl

theorem prefix_0 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v8) = rowOf (W (Proc.devRef .tc main_arg4)) 0 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_1 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v16) = rowOf (W (Proc.devRef .tc main_arg4)) 1 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_2 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v24) = rowOf (W (Proc.devRef .tc main_arg4)) 2 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_3 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v32) = rowOf (W (Proc.devRef .tc main_arg4)) 3 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_4 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v40) = rowOf (W (Proc.devRef .tc main_arg4)) 4 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_5 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v48) = rowOf (W (Proc.devRef .tc main_arg4)) 5 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_6 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v56) = rowOf (W (Proc.devRef .tc main_arg4)) 6 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_7 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v64) = rowOf (W (Proc.devRef .tc main_arg4)) 7 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_8 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v72) = rowOf (W (Proc.devRef .tc main_arg4)) 8 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_9 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v80) = rowOf (W (Proc.devRef .tc main_arg4)) 9 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_10 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v88) = rowOf (W (Proc.devRef .tc main_arg4)) 10 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

theorem prefix_11 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_v94) = framesOf (W (Proc.devRef .tc main_arg4)) 11 := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

/-- The first operations leave argument 2 as it was. -/
theorem prefix_arg2 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_arg2) = W (Proc.devRef .tc main_arg2) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

/-- The first operations leave argument 3 as it was. -/
theorem prefix_arg3 (W : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) W (Proc.devRef .tc main_arg3) = W (Proc.devRef .tc main_arg3) := by
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]; after_results_simp <;> rfl

/-- Operations run one after the other: the later ones on what the earlier ones leave. -/
theorem after_append' (l₁ l₂ : List (HloOp τ sig (Elt F))) (W : Valuation τ sig (Elt F)) :
    StableHlo.after (l₁ ++ l₂) W = StableHlo.after l₂ (StableHlo.after l₁ W) := by
  induction l₁ generalizing W with
  | nil => rfl
  | cons a l ih => simp only [List.cons_append, StableHlo.after_cons, ih]

variable (m : (ℓ : Loc nD τ sig) → Buf (Elt F) ℓ)

/-- What the kernel finds is what the last operations leave after all the others. -/
theorem V0_eq (c : Dev nD) : V0 m c = StableHlo.after lastOps (StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b))) := by
  rw [← after_append']; rfl

/-- The kernel finds the table of row numbers. -/
theorem V_v110 (c : Dev nD) : V m c main_v110 = table (m ((c : Thread nD τ).loc main_arg4)) := by
  show V0 m c (Proc.devRef .tc main_v110) = _
  rw [V0_eq, last_v110, prefix_0, prefix_1, prefix_2, prefix_3, prefix_4, prefix_5, prefix_6, prefix_7, prefix_8, prefix_9, prefix_10, prefix_11]; rfl

/-- The kernel finds the weights as one matrix. -/
theorem V_v111 (c : Dev nD) : V m c main_v111 = shapeCast S3072x2048 (m ((c : Thread nD τ).loc main_arg2) : FVec F S12x256x2048 .f32) shapeCasts_S12x256x2048_S3072x2048 := by
  show V0 m c (Proc.devRef .tc main_v111) = _
  rw [V0_eq, last_v111, prefix_arg2]

/-- The kernel finds the offsets as one row. -/
theorem V_v112 (c : Dev nD) : V m c main_v112 = shapeCast S1x3072 (m ((c : Thread nD τ).loc main_arg3) : FVec F S12x256 .f32) shapeCasts_S12x256_S1x3072 := by
  show V0 m c (Proc.devRef .tc main_v112) = _
  rw [V0_eq, last_v112, prefix_arg3]

end Cert.KernelIdeal.Table

end
-- ==== Proof.KernelTableRead.lean ====
module

public import proofs.«01_k».proof.Proof.KernelTable
public import proofs.«01_k».proof.Proof.Spec

/-
  The three arrays prepared for the kernel, read entry by entry.
-/

@[expose] public section

noncomputable section

namespace Cert.KernelIdeal.Table

open Cert.KernelIdeal Cert.KernelIdeal.Gen Idealize.ShloMosaic Idealize.SL.Sem

set_option maxRecDepth 16384

/-- A row number is the drawn frame, `k + 1` further. -/
theorem row_apply (d : IVec S12x16x10x500 32) (k : Fin 12) (q : Fin 16) (j : Fin 10) (t : Fin 500) :
    rowOf d k (ix3 q j t) = IntOp.addi (Contrast.frameWord (d (ix4 k q j t)) t.val) (BitVec.ofNat 32 (k.val + 1)) := by
  pointwise [rowOf, framesOf, remainderOf, divisor, movedOf]
  rfl

/-- The table holds the row numbers, sequences first. -/
theorem table_apply (d : IVec S12x16x10x500 32) (k : Fin 12) (q : Fin 16) (j : Fin 10) (t : Fin 500) :
    table d (ix4 q k j t) = rowOf d k (ix3 q j t) := by
  pointwise [table, catRows, asStep]
  fin_cases k
  all_goals rfl

/-- As a natural, a word of the table is the drawn frame plus `k + 1`. -/
theorem table_toNat (d : IVec S12x16x10x500 32) (k : Fin 12) (q : Fin 16) (j : Fin 10) (t : Fin 500) :
    (table d (ix4 q k j t)).toNat = (Contrast.frameOf (d (ix4 k q j t)) t.val).val + (k.val + 1) := by
  rw [table_apply, row_apply, IntOp.addi, BitVec.toNat_add, BitVec.toNat_ofNat]
  have := Contrast.frameWord_lt (d (ix4 k q j t)) t.val
  have := k.isLt
  show _ = (Contrast.frameWord (d (ix4 k q j t)) t.val).toNat + (k.val + 1)
  omega

/-- Row `256 k + e` of the one matrix is row `e` of step `k`'s weights. -/
theorem weights_apply (w : FVec Ideal S12x256x2048 .f32) (k : Fin 12) (e : Fin 256) (r : Fin 2048) :
    shapeCast S3072x2048 w shapeCasts_S12x256x2048_S3072x2048 (ix2 ⟨256 * k.val + e.val, by omega⟩ r) = w (ix3 k e r) := by
  pointwise []

/-- Entry `256 k + e` of the one row is entry `e` of step `k`'s offsets. -/
theorem offsets_apply (b : FVec Ideal S12x256 .f32) (k : Fin 12) (e : Fin 256) :
    shapeCast S1x3072 b shapeCasts_S12x256_S1x3072 (ix2 0 ⟨256 * k.val + e.val, by omega⟩) = b (ix2 k e) := by
  pointwise []

end Cert.KernelIdeal.Table

end
-- ==== Proof.KernelArray.lean ====
module

public import proofs.«01_k».proof.Proof.KernelRead
public import proofs.«01_k».proof.Proof.KernelTableRead
public import Idealize.ShloMosaic.Lib.Pipeline.ValueKit

/-
  The two arrays the kernel leaves, and the two results the last operations make of them.
-/

@[expose] public section

noncomputable section

namespace Cert.KernelIdeal.Array

open Cert.KernelIdeal Cert.KernelIdeal.Gen Cert.KernelIdeal.Block Cert.KernelIdeal.Table Idealize.ShloMosaic Idealize.ShloMosaic.TcCoe Idealize.SL.Sem

set_option maxRecDepth 16384

variable (m : (ℓ : Loc nD τ sig) → Buf (Elt Ideal) ℓ) (c : Dev nD)

/-- Each grid point takes one sequence's latents. -/
theorem index_0 : ∀ t : Fin cfg0.N, win0_0.index t = ![(grid0.coords t 0).val, 0, 0] :=
  (by decide +kernel : ∀ t : Fin grid0.N, _)
/-- Each grid point takes one sequence's context. -/
theorem index_1 : ∀ t : Fin cfg0.N, win0_1.index t = ![(grid0.coords t 0).val, 0, 0] :=
  (by decide +kernel : ∀ t : Fin grid0.N, _)
/-- Each grid point takes all weights. -/
theorem index_2 : ∀ t : Fin cfg0.N, win0_2.index t = ![0, 0] :=
  (by decide +kernel : ∀ t : Fin grid0.N, _)
/-- Each grid point takes all offsets. -/
theorem index_3 : ∀ t : Fin cfg0.N, win0_3.index t = ![0, 0] :=
  (by decide +kernel : ∀ t : Fin grid0.N, _)
/-- Each grid point takes one sequence's row numbers. -/
theorem index_4 : ∀ t : Fin cfg0.N, win0_4.index t = ![(grid0.coords t 0).val, 0, 0, 0] :=
  (by decide +kernel : ∀ t : Fin grid0.N, _)
/-- Each grid point writes one sequence's losses. -/
theorem index_5 : ∀ t : Fin cfg0.N, win0_5.index t = ![(grid0.coords t 0).val, 0, 0] :=
  (by decide +kernel : ∀ t : Fin grid0.N, _)
/-- Each grid point writes one sequence's counts. -/
theorem index_6 : ∀ t : Fin cfg0.N, win0_6.index t = ![(grid0.coords t 0).val, 0, 0] :=
  (by decide +kernel : ∀ t : Fin grid0.N, _)

/-- The sequence of a grid point. -/
def seqOf (t : Fin cfg0.N) : Fin 16 := ⟨(grid0.coords t 0).val, (grid0.coords t 0).isLt⟩

/-- A point's latents. -/
theorem block_0 (t : Fin cfg0.N) (r : Fin 512) (e : Fin 256) :
    iblk m c 0 t (ix3 0 r e) = m ((c : Thread nD τ).loc main_arg0) (ix3 (seqOf t) r e) := by
  blk_simp [iblk]
  rw [V_main_arg0]
  congr 1
  blk_ext [index_0 t, seqOf]

/-- A point's context. -/
theorem block_1 (t : Fin cfg0.N) (r : Fin 512) (e : Fin 2048) :
    iblk m c 1 t (ix3 0 r e) = m ((c : Thread nD τ).loc main_arg1) (ix3 (seqOf t) r e) := by
  blk_simp [iblk]
  rw [V_main_arg1]
  congr 1
  blk_ext [index_1 t, seqOf]

/-- A point's weights. -/
theorem block_2 (t : Fin cfg0.N) (k : Fin 12) (e : Fin 256) (r : Fin 2048) :
    iblk m c 2 t (ix2 ⟨256 * k.val + e.val, by omega⟩ r) = m ((c : Thread nD τ).loc main_arg2) (ix3 k e r) := by
  blk_simp [iblk]
  rw [V_v111]
  refine Eq.trans ?_ (weights_apply _ k e r)
  congr 1
  blk_ext [index_2 t]

/-- A point's offsets. -/
theorem block_3 (t : Fin cfg0.N) (k : Fin 12) (e : Fin 256) :
    iblk m c 3 t (ix2 0 ⟨256 * k.val + e.val, by omega⟩) = m ((c : Thread nD τ).loc main_arg3) (ix2 k e) := by
  blk_simp [iblk]
  rw [V_v112]
  refine Eq.trans ?_ (offsets_apply _ k e)
  congr 1
  blk_ext [index_3 t]

/-- A point's row numbers. -/
theorem block_4 (t : Fin cfg0.N) (k : Fin 12) (j : Fin 10) (u : Fin 500) :
    iblk m c 4 t (ix4 0 k j u) = table (m ((c : Thread nD τ).loc main_arg4)) (ix4 (seqOf t) k j u) := by
  blk_simp [iblk]
  rw [V_v110]
  congr 1
  blk_ext [index_4 t, seqOf]

/-- The eleven scores the memory's arguments give. -/
def memScores (k : Fin 12) (q : Fin 16) (t : Fin 500) : Fin 11 → EReal :=
  Contrast.scoresAt (m ((c : Thread nD τ).loc main_arg0)) (m ((c : Thread nD τ).loc main_arg1))
    (m ((c : Thread nD τ).loc main_arg2)) (m ((c : Thread nD τ).loc main_arg3)) (m ((c : Thread nD τ).loc main_arg4)) k q t

/-- The frames drawn for a step, a sequence and a frame. -/
def memFrames (k : Fin 12) (q : Fin 16) (t : Fin 500) (j : Fin 10) : Fin 500 :=
  Contrast.frameOf (m ((c : Thread nD τ).loc main_arg4) (ix4 k q j t) : BitVec 32) t.val

/-- A point's blocks give the scores of its sequence. -/
theorem blockScores_eq (t : Fin cfg0.N) (k : Fin 12) (u : Fin 500) :
    blockScores (iblk m c 0 t) (iblk m c 1 t) (iblk m c 2 t) (iblk m c 3 t) (memFrames m c k (seqOf t) u) k u
      = memScores m c k (seqOf t) u := by
  unfold blockScores memScores Contrast.scoresAt
  simp only [block_0, block_1, block_2, block_3]
  rfl

/-- The words of a point's index block name the rows of its sequence's draws. -/
theorem words_eq (t : Fin cfg0.N) (k : Fin 12) (u : Fin 500) (j : Fin 10) :
    (iblk m c 4 t (ix4 0 k j u) : BitVec 32).toNat = (memFrames m c k (seqOf t) u j).val + (k.val + 1) := by
  rw [block_4]
  exact table_toNat _ _ _ _ _

/-- A row under two leading axes of extent one is the row. -/
theorem under_apply (w : FVec Ideal S1x12 .f32) (k : Fin 12) :
    shapeCast S1x1x12 w shapeCasts_S1x12_S1x1x12 (ix3 0 0 k) = w (ix2 0 k) := by
  pointwise

/-- What a point leaves in its block of losses. -/
theorem after_5 (t : Fin cfg0.N) (k : Fin 12) :
    (dats m 0 c).after 5 t (ix3 0 0 k) = ∑ u : Fin 500, Contrast.entropy (memScores m c k (seqOf t) u) := by
  rw [after0_5, out0_5_eq]
  frame_out
  refine (under_apply _ k).trans ?_
  rw [lossRow_step, lossStep_apply (iblk m c 4 t) _ _ _ _ k (memFrames m c k (seqOf t)) (words_eq m c t k)]
  exact Finset.sum_congr rfl fun u _ => congrArg Contrast.entropy (blockScores_eq m c t k u)

/-- What a point leaves in its block of counts. -/
theorem after_6 (t : Fin cfg0.N) (k : Fin 12) :
    (dats m 0 c).after 6 t (ix3 0 0 k) = ∑ u : Fin 500, Contrast.hit (memScores m c k (seqOf t) u) := by
  rw [after0_6, out0_6_eq]
  frame_out
  refine (under_apply _ k).trans ?_
  rw [hitRow_step, hitStep_apply (iblk m c 4 t) _ _ _ _ k (memFrames m c k (seqOf t)) (words_eq m c t k)]
  exact Finset.sum_congr rfl fun u _ => congrArg Contrast.hit (blockScores_eq m c t k u)

/-- The array a function of the scores makes: for each sequence and step, its sum over the frames. -/
def sums (g : (Fin 11 → EReal) → EReal) : FVec Ideal S16x1x12 .f32 := fun i =>
  ∑ u : Fin 500, g (memScores m c (i 2) (i 0) u)

/-- An index of an output block is its last coordinate. -/
theorem last_only (y : S1x1x12.Idx) : y = ix3 0 0 (y 2) := by
  funext a
  fin_cases a
  · exact Fin.ext (by have := (y 0).isLt; simpa using this)
  · exact Fin.ext (by have := (y 1).isLt; simpa using this)
  · rfl

/-- The array of losses. -/
theorem array_5 : (dats m 0 c).arrAt 5 cfg0.N = sums m c Contrast.entropy := by
  refine (dats m 0 c).arrAt_eq_of_covers 5 _ (by decide +kernel) fun t hf y => ?_
  blk_simp
  have h : (win0_5.blk t).view.emb y = ix3 (seqOf t) 0 (y 2) := by
    idx_bounds y
    blk_ext [index_5 t, seqOf]
  rw [h]
  exact (congrArg ((dats m 0 c).after 5 t) (last_only y)).trans (after_5 m c t (y 2))

/-- The array of counts. -/
theorem array_6 : (dats m 0 c).arrAt 6 cfg0.N = sums m c Contrast.hit := by
  refine (dats m 0 c).arrAt_eq_of_covers 6 _ (by decide +kernel) fun t hf y => ?_
  blk_simp
  have h : (win0_6.blk t).view.emb y = ix3 (seqOf t) 0 (y 2) := by
    idx_bounds y
    blk_ext [index_6 t, seqOf]
  rw [h]
  exact (congrArg ((dats m 0 c).after 6 t) (last_only y)).trans (after_6 m c t (y 2))

end Cert.KernelIdeal.Array

end
-- ==== Proof.KernelTail.lean ====
module

public import proofs.«01_k».proof.Proof.KernelArray

/-
  The operations after the kernel: the two arrays are averaged to the two results; and the run that ends with them.
-/

@[expose] public section

noncomputable section

namespace Cert.KernelIdeal.Tail

open Cert.KernelIdeal Cert.KernelIdeal.Gen Cert.KernelIdeal.Array Idealize.ShloMosaic Idealize.ShloMosaic.TcCoe Idealize.SL.Sem

set_option maxRecDepth 16384

/-- The mean of an array over sequences. -/
def seqMean {F : FTy → Type} [FloatOps F] (a : FVec F S16x1x12 .f32) : FVec F S12 .f32 :=
  Host.divf (Host.reduceAdd a (constant S_ .f32 0x00000000#32) reducesTo_S16x1x12_S12_d0_1 h_S_)
    (broadcastInDim S12 ![] bcast_S_S12 (constant S_ .f32 0x45FA0000#32))

/-- The mean over steps. -/
def allMean {F : FTy → Type} [FloatOps F] (v : FVec F S12 .f32) : FVec F S_ .f32 :=
  Host.divf (Host.reduceAdd v (constant S_ .f32 0x00000000#32) reducesTo_S12_S_d0 h_S_) (constant S_ .f32 0x41400000#32)

/-- The array indices that fall on step `k` are one for each sequence. -/
theorem falls_on (k : Fin 12) (i : S16x1x12.Idx) :
    reducesTo_S16x1x12_S12_d0_1.drop i = ix1 k ↔ ∃ q : Fin 16, ix3 q 0 k = i := by
  constructor
  · intro h
    refine ⟨i 0, ?_⟩
    have h' : (i 2 : Fin 12) = k := congrFun h 0
    funext a
    fin_cases a
    · rfl
    · exact Fin.ext (by have := (i 1).isLt; simpa using this.symm)
    · exact h'.symm
  · rintro ⟨q, rfl⟩
    funext a
    fin_cases a
    rfl

/-- Different sequences have different indices. -/
theorem seq_injective (k : Fin 12) : Function.Injective fun q : Fin 16 => (ix3 q 0 k : S16x1x12.Idx) :=
  fun _ _ h => congrFun h 0

/-- The sum over sequences, entry by entry. -/
theorem seqSum_apply (a : FVec Ideal S16x1x12 .f32) (k : Fin 12) :
    Host.reduceAdd a (constant S_ .f32 0x00000000#32) reducesTo_S16x1x12_S12_d0_1 h_S_ (ix1 k) = ∑ q : Fin 16, a (ix3 q 0 k) := by
  pointwise
  unfold Ideal.hostReduceAdd
  rw [Finset.sum_filter_eq_sum_of_fiber _ (fun q : Fin 16 => (ix3 q 0 k : S16x1x12.Idx)) (seq_injective k) (falls_on k)]
  exact zero_add _

/-- The mean over sequences, entry by entry. -/
theorem seqMean_apply (a : FVec Ideal S16x1x12 .f32) (k : Fin 12) :
    seqMean a (ix1 k) = Ideal.div (∑ q : Fin 16, a (ix3 q 0 k)) (Ideal.ofBits .f32 0x45FA0000#32) :=
  congrArg (fun s => Ideal.div s (Ideal.ofBits .f32 0x45FA0000#32)) (seqSum_apply a k)

/-- The mean over steps is the sum over the twelve steps by twelve. -/
theorem allMean_apply (v : FVec Ideal S12 .f32) : allMean v ix0 = Contrast.overSteps fun k => v (ix1 k) := by
  pointwise [allMean]
  rfl

variable (m : (ℓ : Loc nD τ sig) → Buf (Elt Ideal) ℓ) (c : Dev nD)

/-- The mean of an array of sums is the mean over sequences and frames. -/
theorem seqMean_sums (g : (Fin 11 → EReal) → EReal) (k : Fin 12) :
    seqMean (sums m c g) (ix1 k) = Contrast.mean (fun k q t => g (memScores m c k q t)) k :=
  seqMean_apply _ k

/-- The kernel's first result. -/
theorem loss_eq : allMean (seqMean (sums m c Contrast.entropy))
    = fun _ => Contrast.overSteps (Contrast.mean fun k q t => Contrast.entropy (memScores m c k q t)) := by
  funext i
  rw [show i = ix0 from funext fun a => a.elim0, allMean_apply]
  simp only [seqMean_sums]

/-- The kernel's second result. -/
theorem accs_eq : seqMean (sums m c Contrast.hit)
    = fun i => Contrast.mean (fun k q t => Contrast.hit (memScores m c k q t)) (i 0) := by
  funext i
  idx_vars i
  exact seqMean_sums m c Contrast.hit _

/-- What the operations after the kernel leave for the first result. -/
theorem tail_v118 : Pipeline.afterTail₀ cfgs (dats m) 0 (V0 m) [hostOps1] c main_v118
    = allMean (F := Ideal) (seqMean ((dats m 0 c).arrAt 5 cfg0.N)) := by
  unfold Pipeline.afterTail₀
  simp only [List.flatten_cons, List.flatten_nil, List.append_nil]
  generalize hW : Pipeline.withArrays _ _ _ _ = W
  have h5 : W (Proc.devRef .tc main_v113_0) = (dats m 0 c).arrAt 5 cfg0.N := by
    rw [← hW]
    exact Pipeline.withArrays_arr (cfgs 0).spec launch0.win.arr_inj c (V0 m c) _ 5
  rw [← h5]
  clear h5 hW
  unfold hostOps1
  after_results_simp
  rfl

/-- What the operations after the kernel leave for the second result. -/
theorem tail_v121 : Pipeline.afterTail₀ cfgs (dats m) 0 (V0 m) [hostOps1] c main_v121
    = seqMean (F := Ideal) ((dats m 0 c).arrAt 6 cfg0.N) := by
  unfold Pipeline.afterTail₀
  simp only [List.flatten_cons, List.flatten_nil, List.append_nil]
  generalize hW : Pipeline.withArrays _ _ _ _ = W
  have h6 : W (Proc.devRef .tc main_v113_1) = (dats m 0 c).arrAt 6 cfg0.N := by
    rw [← hW]
    exact Pipeline.withArrays_arr (cfgs 0).spec launch0.win.arr_inj c (V0 m c) _ 6
  rw [← h6]
  clear h6 hW
  unfold hostOps1
  after_results_simp
  rfl

/-- Every run of the kernel ends with the mean cross-entropy and the mean hits, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v118)
        = (fun _ => Contrast.overSteps (Contrast.mean fun k q t => Contrast.entropy (memScores m c k q t)))
      ∧ r.2.mem ((c.tc : Thread nD τ).loc main_v121)
        = (fun i => Contrast.mean (fun k q t => Contrast.hit (memScores m c k q t)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (run_main m ρ) (unchanged m ρ))
  refine ⟨?_, ?_, h.2 c⟩
  · rw [(h.1 c).2 main_v118 (Pipeline.mem_restRefs_of main_v118 (by decide) (by decide)), tail_v118, array_5]
    exact loss_eq m c
  · rw [(h.1 c).2 main_v121 (Pipeline.mem_restRefs_of main_v121 (by decide) (by decide)), tail_v121, array_6]
    exact accs_eq m c

end Cert.KernelIdeal.Tail

end
-- ==== Proof.lean ====
/- The claims, assembled: the kernel and the reference leave their arguments unchanged, and at the ideal values they
   end with the same mean loss and the same mean hits. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.RefRead
public import proofs.«01_k».proof.Proof.KernelTail
public import Idealize.ShloMosaic.Adequacy
public import Idealize.ShloMosaic.Init

@[expose] public section

noncomputable section

namespace Cert.Proof

open Idealize.ShloMosaic Idealize.SL.Sem Cert.Kernel

/-- Every run of the reference ends with its arguments unchanged and every counter at zero. -/
theorem reference_frame : quiescent_ReferenceIdeal (hReferenceIdeal := Cert.ReferenceIdeal.Gen.facts) := fun m g _ =>
  (θ_run _ _ _).mono (fun r h => ⟨fun c => (h c).2.2, sem_eq_zero_of_no_sems (by decide) r.2⟩) (Cert.ReferenceIdeal.Ref.run m g)

/-- The kernel and the reference, run at the ideal values on the same arguments, end with the same two results. -/
theorem equal_results : algebraic_KernelIdeal_ReferenceIdeal (hKernelIdeal := Cert.KernelIdeal.Gen.facts)
    (hReferenceIdeal := Cert.ReferenceIdeal.Gen.facts) := by
  intro m g m' g' _ hm
  refine ⟨_, _, Cert.KernelIdeal.Tail.run m g, ?_⟩
  refine (θ_run _ _ _).mono (fun r h c => ⟨?_, ?_, (h c).2.2⟩) (Cert.ReferenceIdeal.Ref.run m' g')
  · rw [(h c).1, Cert.ReferenceIdeal.Ref.loss_eq, (hm c).1, (hm c).2.1, (hm c).2.2.1, (hm c).2.2.2.1, (hm c).2.2.2.2]
    rfl
  · rw [(h c).2.1, Cert.ReferenceIdeal.Ref.accs_eq, (hm c).1, (hm c).2.1, (hm c).2.2.1, (hm c).2.2.2.1, (hm c).2.2.2.2]
    rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, equal_results⟩

end Cert.Proof

end
